-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![512, 4096]⟩ ⟨2, ![512, 16384]⟩ (Layout.meshBlock [2, 2, 4] ![[], [2]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S256x512 : Shape := ⟨2, ![256, 512]⟩
abbrev S512x4096 : Shape := ⟨2, ![512, 4096]⟩
abbrev S_ : Shape := ⟨0, ![]⟩

class Facts : Prop where
  bcast_S_S256x512 : S_.BroadcastsInDim S256x512 (![] : Fin 0 → Fin S256x512.rank)
  reducesTo_S256x512_S_d0_1 : S256x512.ReducesTo [0, 1] S_
  h_S_ : 0 < S_.numel
  bcast_S_S512x4096 : S_.BroadcastsInDim S512x4096 (![] : Fin 0 → Fin S512x4096.rank)
  reducesTo_S512x4096_S_d0_1 : S512x4096.ReducesTo [0, 1] S_

variable [Facts]

def fn {F : FTy → Type} [FloatOps F] (main_arg0 : FVec F S256x512 .f32) (main_arg1 : FVec F S512x4096 .f32) : IVec S_ 1 :=
  let main_v0 : FVec F S256x512 .f32 := Host.absf main_arg0
  let main_cst : FVec F S_ .f32 := constant S_ .f32 0x7F800000#32
  let main_v1 : FVec F S256x512 .f32 := broadcastInDim S256x512 ![] bcast_S_S256x512 main_cst
  let main_v2 : IVec S256x512 1 := cmpf .olt main_v0 main_v1
  let main_c : IVec S_ 1 := constantI S_ 1 1#1
  let main_v3 : IVec S_ 1 := (fun x v => Host.reduce IntOp.andi x v reducesTo_S256x512_S_d0_1 h_S_) main_v2 main_c
  let main_v4 : FVec F S512x4096 .f32 := Host.absf main_arg1
  let main_cst_0 : FVec F S_ .f32 := constant S_ .f32 0x7F800000#32
  let main_v5 : FVec F S512x4096 .f32 := broadcastInDim S512x4096 ![] bcast_S_S512x4096 main_cst_0
  let main_v6 : IVec S512x4096 1 := cmpf .olt main_v4 main_v5
  let main_c_1 : IVec S_ 1 := constantI S_ 1 1#1
  let main_v7 : IVec S_ 1 := (fun x v => Host.reduce IntOp.andi x v reducesTo_S512x4096_S_d0_1 h_S_) main_v6 main_c_1
  let main_v8 : IVec S_ 1 := andi main_v3 main_v7
  main_v8
-- ==== Pre_finite_ReferenceIdeal.lean ====
abbrev S256x512 : Shape := ⟨2, ![256, 512]⟩
abbrev S512x16384 : Shape := ⟨2, ![512, 16384]⟩
abbrev S_ : Shape := ⟨0, ![]⟩

class Facts : Prop where
  bcast_S_S256x512 : S_.BroadcastsInDim S256x512 (![] : Fin 0 → Fin S256x512.rank)
  reducesTo_S256x512_S_d0_1 : S256x512.ReducesTo [0, 1] S_
  h_S_ : 0 < S_.numel
  bcast_S_S512x16384 : S_.BroadcastsInDim S512x16384 (![] : Fin 0 → Fin S512x16384.rank)
  reducesTo_S512x16384_S_d0_1 : S512x16384.ReducesTo [0, 1] S_

variable [Facts]

def fn {F : FTy → Type} [FloatOps F] (main_arg0 : FVec F S256x512 .f32) (main_arg1 : FVec F S512x16384 .f32) : IVec S_ 1 :=
  let main_v0 : FVec F S256x512 .f32 := Host.absf main_arg0
  let main_cst : FVec F S_ .f32 := constant S_ .f32 0x7F800000#32
  let main_v1 : FVec F S256x512 .f32 := broadcastInDim S256x512 ![] bcast_S_S256x512 main_cst
  let main_v2 : IVec S256x512 1 := cmpf .olt main_v0 main_v1
  let main_c : IVec S_ 1 := constantI S_ 1 1#1
  let main_v3 : IVec S_ 1 := (fun x v => Host.reduce IntOp.andi x v reducesTo_S256x512_S_d0_1 h_S_) main_v2 main_c
  let main_v4 : FVec F S512x16384 .f32 := Host.absf main_arg1
  let main_cst_0 : FVec F S_ .f32 := constant S_ .f32 0x7F800000#32
  let main_v5 : FVec F S512x16384 .f32 := broadcastInDim S512x16384 ![] bcast_S_S512x16384 main_cst_0
  let main_v6 : IVec S512x16384 1 := cmpf .olt main_v4 main_v5
  let main_c_1 : IVec S_ 1 := constantI S_ 1 1#1
  let main_v7 : IVec S_ 1 := (fun x v => Host.reduce IntOp.andi x v reducesTo_S512x16384_S_d0_1 h_S_) main_v6 main_c_1
  let main_v8 : IVec S_ 1 := andi main_v3 main_v7
  main_v8
-- ==== Kernel.lean ====
abbrev S256x512 : Shape := ⟨2, ![256, 512]⟩
abbrev S512x4096 : Shape := ⟨2, ![512, 4096]⟩
abbrev S256x16384 : Shape := ⟨2, ![256, 16384]⟩
abbrev S3x4 : Shape := ⟨2, ![3, 4]⟩
abbrev S_ : Shape := ⟨0, ![]⟩
abbrev S512x1024 : Shape := ⟨2, ![512, 1024]⟩
abbrev S256x1024 : Shape := ⟨2, ![256, 1024]⟩
abbrev S1x1 : Shape := ⟨2, ![1, 1]⟩
abbrev S64x1024 : Shape := ⟨2, ![64, 1024]⟩
abbrev S32x1024 : Shape := ⟨2, ![32, 1024]⟩
abbrev S256x4096 : Shape := ⟨2, ![256, 4096]⟩
abbrev S256 : Shape := ⟨1, ![256]⟩
abbrev S256x1 : Shape := ⟨2, ![256, 1]⟩

abbrev nBuf : Space → Nat
  | .hbm => 3
  | .vmem => 4
  | .smem => 0
  | _ => 0

abbrev bufTy : (tb : Table) → Fin (tcTables nBuf tb) → BufTy
  | .hbm, ⟨0, _⟩ => ⟨S256x512, .f32⟩
  | .hbm, ⟨1, _⟩ => ⟨S512x4096, .f32⟩
  | .hbm, ⟨2, _⟩ => ⟨S256x16384, .f32⟩
  | .local _ .vmem, ⟨0, _⟩ => ⟨S256x512, .f32⟩
  | .local _ .vmem, ⟨1, _⟩ => ⟨S512x4096, .f32⟩
  | .local _ .vmem, ⟨2, _⟩ => ⟨S256x16384, .f32⟩
  | .local _ .vmem, ⟨3, _⟩ => ⟨S256x16384, .bf16⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 123 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | ⟨122, _⟩ => true
  | _ => false

abbrev sig : RefSig :=
  (ofTc nBuf bufTy 1 123 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_24 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_23 : BitVec 32 := 8#32
  let v42 : BitVec 32 := Scalar.muli v2 c8_i32_23
  let v43 : BitVec 32 := Scalar.addi c0_i32_24 v42
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_25 : BitVec 32 := 4#32
  let v44 : BitVec 32 := Scalar.muli v5 c4_i32_25
  let v45 : BitVec 32 := Scalar.addi v43 v44
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.subi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_26 : BitVec 32 := 1#32
  let v46 : BitVec 32 := Scalar.muli v19 c1_i32_26
  let v47 : BitVec 32 := Scalar.addi v45 v46
  v47.toNat
def k0_dev2 (d0 : Dev nD) : Nat :=
  let c0_i32_29 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_28 : BitVec 32 := 8#32
  let v48 : BitVec 32 := Scalar.muli v2 c8_i32_28
  let v49 : BitVec 32 := Scalar.addi c0_i32_29 v48
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_30 : BitVec 32 := 4#32
  let v50 : BitVec 32 := Scalar.muli v5 c4_i32_30
  let v51 : BitVec 32 := Scalar.addi v49 v50
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_31 : BitVec 32 := 1#32
  let v52 : BitVec 32 := Scalar.muli v30 c1_i32_31
  let v53 : BitVec 32 := Scalar.addi v51 v52
  v53.toNat
def k0_dev3 (d0 : Dev nD) : Nat :=
  let c0_i32_34 : BitVec 32 := 0#32
  let c1_i32_20 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v40 : BitVec 32 := Scalar.subi c1_i32_20 v2
  let c8_i32_33 : BitVec 32 := 8#32
  let v54 : BitVec 32 := Scalar.muli v40 c8_i32_33
  let v55 : BitVec 32 := Scalar.addi c0_i32_34 v54
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_35 : BitVec 32 := 4#32
  let v56 : BitVec 32 := Scalar.muli v5 c4_i32_35
  let v57 : BitVec 32 := Scalar.addi v55 v56
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_36 : BitVec 32 := 1#32
  let v58 : BitVec 32 := Scalar.muli v8 c1_i32_36
  let v59 : BitVec 32 := Scalar.addi v57 v58
  v59.toNat
def k0_dev4 (d0 : Dev nD) : Nat :=
  let c0_i32_39 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_38 : BitVec 32 := 8#32
  let v60 : BitVec 32 := Scalar.muli v2 c8_i32_38
  let v61 : BitVec 32 := Scalar.addi c0_i32_39 v60
  let c1_i32_21 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v41 : BitVec 32 := Scalar.subi c1_i32_21 v5
  let c4_i32_40 : BitVec 32 := 4#32
  let v62 : BitVec 32 := Scalar.muli v41 c4_i32_40
  let v63 : BitVec 32 := Scalar.addi v61 v62
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_41 : BitVec 32 := 1#32
  let v64 : BitVec 32 := Scalar.muli v8 c1_i32_41
  let v65 : BitVec 32 := Scalar.addi v63 v64
  v65.toNat
def k0_off1 (d0 : Dev nD) (c0_i32_48 : BitVec 32) : Fin 2 → Nat :=
  let c0_49 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4096_i32 : BitVec 32 := 4096#32
  let v77 : BitVec 32 := Scalar.muli v8 c4096_i32
  let v78 : BitVec 32 := Scalar.addi v77 c0_i32_48
  let v79 : Index := Scalar.indexCast v78
  ![0, v79.toNat]
def k0_off2 (d0 : Dev nD) (c0_i32_50 : BitVec 32) (c0_i32_58 : BitVec 32) : Fin 2 → Nat :=
  let c2_i32_15 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v31 : BitVec 32 := Scalar.muli c2_i32_15 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v32 : BitVec 32 := Scalar.addi v31 v5
  let c64_i32 : BitVec 32 := 64#32
  let v94 : BitVec 32 := Scalar.muli v32 c64_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v83 : BitVec 32 := Scalar.subi v8 c0_i32_50
  let c4_i32_51 : BitVec 32 := 4#32
  let c0_i32_52 : BitVec 32 := 0#32
  let v84 : BitVec 1 := Scalar.cmpi .eq c4_i32_51 c0_i32_52
  let c1_i32_53 : BitVec 32 := 1#32
  let v85 : BitVec 32 := Scalar.select v84 c1_i32_53 c4_i32_51
  let v86 : BitVec 32 := Scalar.remsi v83 v85
  let c0_i32_55 : BitVec 32 := 0#32
  let v88 : BitVec 1 := Scalar.cmpi .slt v86 c0_i32_55
  let c0_i32_56 : BitVec 32 := 0#32
  let v89 : BitVec 1 := Scalar.cmpi .slt v85 c0_i32_56
  let v90 : BitVec 1 := Scalar.xori v88 v89
  let c0_i32_54 : BitVec 32 := 0#32
  let v87 : BitVec 1 := Scalar.cmpi .ne v86 c0_i32_54
  let v91 : BitVec 1 := Scalar.andi v90 v87
  let v92 : BitVec 32 := Scalar.addi v86 v85
  let v93 : BitVec 32 := Scalar.select v91 v92 v86
  let c4096_i32_57 : BitVec 32 := 4096#32
  let v95 : BitVec 32 := Scalar.muli v93 c4096_i32_57
  let v96 : BitVec 32 := Scalar.addi v95 c0_i32_58
  ![v94.toNat, v96.toNat]
def k0_dev5 (d0 : Dev nD) : Nat :=
  let c0_i32_64 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_63 : BitVec 32 := 8#32
  let v97 : BitVec 32 := Scalar.muli v2 c8_i32_63
  let v98 : BitVec 32 := Scalar.addi c0_i32_64 v97
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_65 : BitVec 32 := 4#32
  let v99 : BitVec 32 := Scalar.muli v5 c4_i32_65
  let v100 : BitVec 32 := Scalar.addi v98 v99
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_66 : BitVec 32 := 1#32
  let v101 : BitVec 32 := Scalar.muli v30 c1_i32_66
  let v102 : BitVec 32 := Scalar.addi v100 v101
  v102.toNat
def k0_dev6 (d0 : Dev nD) : Nat :=
  let c0_i32_86 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_85 : BitVec 32 := 8#32
  let v135 : BitVec 32 := Scalar.muli v2 c8_i32_85
  let v136 : BitVec 32 := Scalar.addi c0_i32_86 v135
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_87 : BitVec 32 := 4#32
  let v137 : BitVec 32 := Scalar.muli v5 c4_i32_87
  let v138 : BitVec 32 := Scalar.addi v136 v137
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_88 : BitVec 32 := 1#32
  let v139 : BitVec 32 := Scalar.muli v30 c1_i32_88
  let v140 : BitVec 32 := Scalar.addi v138 v139
  v140.toNat
def k0_dev7 (d0 : Dev nD) : Nat :=
  let c0_i32_108 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_107 : BitVec 32 := 8#32
  let v173 : BitVec 32 := Scalar.muli v2 c8_i32_107
  let v174 : BitVec 32 := Scalar.addi c0_i32_108 v173
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_109 : BitVec 32 := 4#32
  let v175 : BitVec 32 := Scalar.muli v5 c4_i32_109
  let v176 : BitVec 32 := Scalar.addi v174 v175
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_110 : BitVec 32 := 1#32
  let v177 : BitVec 32 := Scalar.muli v30 c1_i32_110
  let v178 : BitVec 32 := Scalar.addi v176 v177
  v178.toNat
def k0_dev8 (d0 : Dev nD) : Nat :=
  let c0_i32_129 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_128 : BitVec 32 := 8#32
  let v211 : BitVec 32 := Scalar.muli v2 c8_i32_128
  let v212 : BitVec 32 := Scalar.addi c0_i32_129 v211
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_130 : BitVec 32 := 4#32
  let v213 : BitVec 32 := Scalar.muli v5 c4_i32_130
  let v214 : BitVec 32 := Scalar.addi v212 v213
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_131 : BitVec 32 := 1#32
  let v215 : BitVec 32 := Scalar.muli v30 c1_i32_131
  let v216 : BitVec 32 := Scalar.addi v214 v215
  v216.toNat
def k0_dev9 (d0 : Dev nD) : Nat :=
  let c0_i32_155 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_154 : BitVec 32 := 8#32
  let v247 : BitVec 32 := Scalar.muli v2 c8_i32_154
  let v248 : BitVec 32 := Scalar.addi c0_i32_155 v247
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_156 : BitVec 32 := 4#32
  let v249 : BitVec 32 := Scalar.muli v5 c4_i32_156
  let v250 : BitVec 32 := Scalar.addi v248 v249
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_157 : BitVec 32 := 1#32
  let v251 : BitVec 32 := Scalar.muli v30 c1_i32_157
  let v252 : BitVec 32 := Scalar.addi v250 v251
  v252.toNat
def k0_off3 (d0 : Dev nD) (c0_i32_158 : BitVec 32) (c0_i32_168 : BitVec 32) : Fin 2 → Nat :=
  let c2_i32_15 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v31 : BitVec 32 := Scalar.muli c2_i32_15 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v32 : BitVec 32 := Scalar.addi v31 v5
  let c64_i32_166 : BitVec 32 := 64#32
  let v271 : BitVec 32 := Scalar.muli v32 c64_i32_166
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v259 : BitVec 32 := Scalar.subi v8 c0_i32_158
  let c1_i32_159 : BitVec 32 := 1#32
  let v260 : BitVec 32 := Scalar.subi v259 c1_i32_159
  let c4_i32_160 : BitVec 32 := 4#32
  let c0_i32_161 : BitVec 32 := 0#32
  let v261 : BitVec 1 := Scalar.cmpi .eq c4_i32_160 c0_i32_161
  let c1_i32_162 : BitVec 32 := 1#32
  let v262 : BitVec 32 := Scalar.select v261 c1_i32_162 c4_i32_160
  let v263 : BitVec 32 := Scalar.remsi v260 v262
  let c0_i32_164 : BitVec 32 := 0#32
  let v265 : BitVec 1 := Scalar.cmpi .slt v263 c0_i32_164
  let c0_i32_165 : BitVec 32 := 0#32
  let v266 : BitVec 1 := Scalar.cmpi .slt v262 c0_i32_165
  let v267 : BitVec 1 := Scalar.xori v265 v266
  let c0_i32_163 : BitVec 32 := 0#32
  let v264 : BitVec 1 := Scalar.cmpi .ne v263 c0_i32_163
  let v268 : BitVec 1 := Scalar.andi v267 v264
  let v269 : BitVec 32 := Scalar.addi v263 v262
  let v270 : BitVec 32 := Scalar.select v268 v269 v263
  let c4096_i32_167 : BitVec 32 := 4096#32
  let v272 : BitVec 32 := Scalar.muli v270 c4096_i32_167
  let v273 : BitVec 32 := Scalar.addi v272 c0_i32_168
  ![v271.toNat, v273.toNat]
def k0_dev10 (d0 : Dev nD) : Nat :=
  let c0_i32_174 : BitVec 32 := 0#32
  let c1_i32_43 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v66 : BitVec 32 := Scalar.subi c1_i32_43 v2
  let c8_i32_173 : BitVec 32 := 8#32
  let v274 : BitVec 32 := Scalar.muli v66 c8_i32_173
  let v275 : BitVec 32 := Scalar.addi c0_i32_174 v274
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_175 : BitVec 32 := 4#32
  let v276 : BitVec 32 := Scalar.muli v5 c4_i32_175
  let v277 : BitVec 32 := Scalar.addi v275 v276
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_176 : BitVec 32 := 1#32
  let v278 : BitVec 32 := Scalar.muli v8 c1_i32_176
  let v279 : BitVec 32 := Scalar.addi v277 v278
  v279.toNat
def k0_dev11 (d0 : Dev nD) : Nat :=
  let c0_i32_193 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_192 : BitVec 32 := 8#32
  let v301 : BitVec 32 := Scalar.muli v2 c8_i32_192
  let v302 : BitVec 32 := Scalar.addi c0_i32_193 v301
  let c1_i32_44 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v67 : BitVec 32 := Scalar.subi c1_i32_44 v5
  let c4_i32_194 : BitVec 32 := 4#32
  let v303 : BitVec 32 := Scalar.muli v67 c4_i32_194
  let v304 : BitVec 32 := Scalar.addi v302 v303
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_195 : BitVec 32 := 1#32
  let v305 : BitVec 32 := Scalar.muli v8 c1_i32_195
  let v306 : BitVec 32 := Scalar.addi v304 v305
  v306.toNat
def k0_dev12 (d0 : Dev nD) : Nat :=
  let c0_i32_219 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_218 : BitVec 32 := 8#32
  let v337 : BitVec 32 := Scalar.muli v2 c8_i32_218
  let v338 : BitVec 32 := Scalar.addi c0_i32_219 v337
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_220 : BitVec 32 := 4#32
  let v339 : BitVec 32 := Scalar.muli v5 c4_i32_220
  let v340 : BitVec 32 := Scalar.addi v338 v339
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_221 : BitVec 32 := 1#32
  let v341 : BitVec 32 := Scalar.muli v30 c1_i32_221
  let v342 : BitVec 32 := Scalar.addi v340 v341
  v342.toNat
def k0_dev13 (d0 : Dev nD) : Nat :=
  let c0_i32_238 : BitVec 32 := 0#32
  let c1_i32_43 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v66 : BitVec 32 := Scalar.subi c1_i32_43 v2
  let c8_i32_237 : BitVec 32 := 8#32
  let v364 : BitVec 32 := Scalar.muli v66 c8_i32_237
  let v365 : BitVec 32 := Scalar.addi c0_i32_238 v364
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_239 : BitVec 32 := 4#32
  let v366 : BitVec 32 := Scalar.muli v5 c4_i32_239
  let v367 : BitVec 32 := Scalar.addi v365 v366
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_240 : BitVec 32 := 1#32
  let v368 : BitVec 32 := Scalar.muli v8 c1_i32_240
  let v369 : BitVec 32 := Scalar.addi v367 v368
  v369.toNat
def k0_dev14 (d0 : Dev nD) : Nat :=
  let c0_i32_257 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_256 : BitVec 32 := 8#32
  let v391 : BitVec 32 := Scalar.muli v2 c8_i32_256
  let v392 : BitVec 32 := Scalar.addi c0_i32_257 v391
  let c1_i32_44 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v67 : BitVec 32 := Scalar.subi c1_i32_44 v5
  let c4_i32_258 : BitVec 32 := 4#32
  let v393 : BitVec 32 := Scalar.muli v67 c4_i32_258
  let v394 : BitVec 32 := Scalar.addi v392 v393
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_259 : BitVec 32 := 1#32
  let v395 : BitVec 32 := Scalar.muli v8 c1_i32_259
  let v396 : BitVec 32 := Scalar.addi v394 v395
  v396.toNat
def k0_dev15 (d0 : Dev nD) : Nat :=
  let c0_i32_283 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_282 : BitVec 32 := 8#32
  let v427 : BitVec 32 := Scalar.muli v2 c8_i32_282
  let v428 : BitVec 32 := Scalar.addi c0_i32_283 v427
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_284 : BitVec 32 := 4#32
  let v429 : BitVec 32 := Scalar.muli v5 c4_i32_284
  let v430 : BitVec 32 := Scalar.addi v428 v429
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_285 : BitVec 32 := 1#32
  let v431 : BitVec 32 := Scalar.muli v30 c1_i32_285
  let v432 : BitVec 32 := Scalar.addi v430 v431
  v432.toNat
def k0_dev16 (d0 : Dev nD) : Nat :=
  let c0_i32_302 : BitVec 32 := 0#32
  let c1_i32_43 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v66 : BitVec 32 := Scalar.subi c1_i32_43 v2
  let c8_i32_301 : BitVec 32 := 8#32
  let v454 : BitVec 32 := Scalar.muli v66 c8_i32_301
  let v455 : BitVec 32 := Scalar.addi c0_i32_302 v454
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_303 : BitVec 32 := 4#32
  let v456 : BitVec 32 := Scalar.muli v5 c4_i32_303
  let v457 : BitVec 32 := Scalar.addi v455 v456
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_304 : BitVec 32 := 1#32
  let v458 : BitVec 32 := Scalar.muli v8 c1_i32_304
  let v459 : BitVec 32 := Scalar.addi v457 v458
  v459.toNat
def k0_dev17 (d0 : Dev nD) : Nat :=
  let c0_i32_321 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_320 : BitVec 32 := 8#32
  let v481 : BitVec 32 := Scalar.muli v2 c8_i32_320
  let v482 : BitVec 32 := Scalar.addi c0_i32_321 v481
  let c1_i32_44 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v67 : BitVec 32 := Scalar.subi c1_i32_44 v5
  let c4_i32_322 : BitVec 32 := 4#32
  let v483 : BitVec 32 := Scalar.muli v67 c4_i32_322
  let v484 : BitVec 32 := Scalar.addi v482 v483
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_323 : BitVec 32 := 1#32
  let v485 : BitVec 32 := Scalar.muli v8 c1_i32_323
  let v486 : BitVec 32 := Scalar.addi v484 v485
  v486.toNat
def k0_dev18 (d0 : Dev nD) : Nat :=
  let c0_i32_347 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_346 : BitVec 32 := 8#32
  let v517 : BitVec 32 := Scalar.muli v2 c8_i32_346
  let v518 : BitVec 32 := Scalar.addi c0_i32_347 v517
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_348 : BitVec 32 := 4#32
  let v519 : BitVec 32 := Scalar.muli v5 c4_i32_348
  let v520 : BitVec 32 := Scalar.addi v518 v519
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_349 : BitVec 32 := 1#32
  let v521 : BitVec 32 := Scalar.muli v30 c1_i32_349
  let v522 : BitVec 32 := Scalar.addi v520 v521
  v522.toNat
def k0_dev19 (d0 : Dev nD) : Nat :=
  let c0_i32_366 : BitVec 32 := 0#32
  let c1_i32_43 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v66 : BitVec 32 := Scalar.subi c1_i32_43 v2
  let c8_i32_365 : BitVec 32 := 8#32
  let v544 : BitVec 32 := Scalar.muli v66 c8_i32_365
  let v545 : BitVec 32 := Scalar.addi c0_i32_366 v544
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_367 : BitVec 32 := 4#32
  let v546 : BitVec 32 := Scalar.muli v5 c4_i32_367
  let v547 : BitVec 32 := Scalar.addi v545 v546
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_368 : BitVec 32 := 1#32
  let v548 : BitVec 32 := Scalar.muli v8 c1_i32_368
  let v549 : BitVec 32 := Scalar.addi v547 v548
  v549.toNat
def k0_dev20 (d0 : Dev nD) : Nat :=
  let c0_i32_385 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_384 : BitVec 32 := 8#32
  let v571 : BitVec 32 := Scalar.muli v2 c8_i32_384
  let v572 : BitVec 32 := Scalar.addi c0_i32_385 v571
  let c1_i32_44 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v67 : BitVec 32 := Scalar.subi c1_i32_44 v5
  let c4_i32_386 : BitVec 32 := 4#32
  let v573 : BitVec 32 := Scalar.muli v67 c4_i32_386
  let v574 : BitVec 32 := Scalar.addi v572 v573
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_387 : BitVec 32 := 1#32
  let v575 : BitVec 32 := Scalar.muli v8 c1_i32_387
  let v576 : BitVec 32 := Scalar.addi v574 v575
  v576.toNat
def k0_dev21 (d0 : Dev nD) : Nat :=
  let c0_i32_411 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_410 : BitVec 32 := 8#32
  let v607 : BitVec 32 := Scalar.muli v2 c8_i32_410
  let v608 : BitVec 32 := Scalar.addi c0_i32_411 v607
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_412 : BitVec 32 := 4#32
  let v609 : BitVec 32 := Scalar.muli v5 c4_i32_412
  let v610 : BitVec 32 := Scalar.addi v608 v609
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_413 : BitVec 32 := 1#32
  let v611 : BitVec 32 := Scalar.muli v30 c1_i32_413
  let v612 : BitVec 32 := Scalar.addi v610 v611
  v612.toNat
def k0_dev22 (d0 : Dev nD) : Nat :=
  let c0_i32_430 : BitVec 32 := 0#32
  let c1_i32_43 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v66 : BitVec 32 := Scalar.subi c1_i32_43 v2
  let c8_i32_429 : BitVec 32 := 8#32
  let v634 : BitVec 32 := Scalar.muli v66 c8_i32_429
  let v635 : BitVec 32 := Scalar.addi c0_i32_430 v634
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_431 : BitVec 32 := 4#32
  let v636 : BitVec 32 := Scalar.muli v5 c4_i32_431
  let v637 : BitVec 32 := Scalar.addi v635 v636
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_432 : BitVec 32 := 1#32
  let v638 : BitVec 32 := Scalar.muli v8 c1_i32_432
  let v639 : BitVec 32 := Scalar.addi v637 v638
  v639.toNat
def k0_dev23 (d0 : Dev nD) : Nat :=
  let c0_i32_449 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_448 : BitVec 32 := 8#32
  let v661 : BitVec 32 := Scalar.muli v2 c8_i32_448
  let v662 : BitVec 32 := Scalar.addi c0_i32_449 v661
  let c1_i32_44 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v67 : BitVec 32 := Scalar.subi c1_i32_44 v5
  let c4_i32_450 : BitVec 32 := 4#32
  let v663 : BitVec 32 := Scalar.muli v67 c4_i32_450
  let v664 : BitVec 32 := Scalar.addi v662 v663
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_451 : BitVec 32 := 1#32
  let v665 : BitVec 32 := Scalar.muli v8 c1_i32_451
  let v666 : BitVec 32 := Scalar.addi v664 v665
  v666.toNat
def k0_off4 (d0 : Dev nD) (c0_i32_460 : BitVec 32) (c0_i32_470 : BitVec 32) : Fin 2 → Nat :=
  let c2_i32_17 : BitVec 32 := 2#32
  let c1_i32_16 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v33 : BitVec 32 := Scalar.subi c1_i32_16 v2
  let v34 : BitVec 32 := Scalar.muli c2_i32_17 v33
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v35 : BitVec 32 := Scalar.addi v34 v5
  let c64_i32_468 : BitVec 32 := 64#32
  let v695 : BitVec 32 := Scalar.muli v35 c64_i32_468
  let c32_i32 : BitVec 32 := 32#32
  let v696 : BitVec 32 := Scalar.addi v695 c32_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v683 : BitVec 32 := Scalar.subi v8 c0_i32_460
  let c1_i32_461 : BitVec 32 := 1#32
  let v684 : BitVec 32 := Scalar.subi v683 c1_i32_461
  let c4_i32_462 : BitVec 32 := 4#32
  let c0_i32_463 : BitVec 32 := 0#32
  let v685 : BitVec 1 := Scalar.cmpi .eq c4_i32_462 c0_i32_463
  let c1_i32_464 : BitVec 32 := 1#32
  let v686 : BitVec 32 := Scalar.select v685 c1_i32_464 c4_i32_462
  let v687 : BitVec 32 := Scalar.remsi v684 v686
  let c0_i32_466 : BitVec 32 := 0#32
  let v689 : BitVec 1 := Scalar.cmpi .slt v687 c0_i32_466
  let c0_i32_467 : BitVec 32 := 0#32
  let v690 : BitVec 1 := Scalar.cmpi .slt v686 c0_i32_467
  let v691 : BitVec 1 := Scalar.xori v689 v690
  let c0_i32_465 : BitVec 32 := 0#32
  let v688 : BitVec 1 := Scalar.cmpi .ne v687 c0_i32_465
  let v692 : BitVec 1 := Scalar.andi v691 v688
  let v693 : BitVec 32 := Scalar.addi v687 v686
  let v694 : BitVec 32 := Scalar.select v692 v693 v687
  let c4096_i32_469 : BitVec 32 := 4096#32
  let v697 : BitVec 32 := Scalar.muli v694 c4096_i32_469
  let v698 : BitVec 32 := Scalar.addi v697 c0_i32_470
  ![v696.toNat, v698.toNat]
def k0_dev24 (d0 : Dev nD) : Nat :=
  let c0_i32_476 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_475 : BitVec 32 := 8#32
  let v699 : BitVec 32 := Scalar.muli v2 c8_i32_475
  let v700 : BitVec 32 := Scalar.addi c0_i32_476 v699
  let c1_i32_44 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v67 : BitVec 32 := Scalar.subi c1_i32_44 v5
  let c4_i32_477 : BitVec 32 := 4#32
  let v701 : BitVec 32 := Scalar.muli v67 c4_i32_477
  let v702 : BitVec 32 := Scalar.addi v700 v701
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_478 : BitVec 32 := 1#32
  let v703 : BitVec 32 := Scalar.muli v8 c1_i32_478
  let v704 : BitVec 32 := Scalar.addi v702 v703
  v704.toNat
def k0_off5 (d0 : Dev nD) (c0_i32_487 : BitVec 32) (c0_i32_497 : BitVec 32) : Fin 2 → Nat :=
  let c2_i32_18 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v36 : BitVec 32 := Scalar.muli c2_i32_18 v2
  let c1_i32_19 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v37 : BitVec 32 := Scalar.subi c1_i32_19 v5
  let v38 : BitVec 32 := Scalar.addi v36 v37
  let c64_i32_495 : BitVec 32 := 64#32
  let v733 : BitVec 32 := Scalar.muli v38 c64_i32_495
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v721 : BitVec 32 := Scalar.subi v8 c0_i32_487
  let c1_i32_488 : BitVec 32 := 1#32
  let v722 : BitVec 32 := Scalar.subi v721 c1_i32_488
  let c4_i32_489 : BitVec 32 := 4#32
  let c0_i32_490 : BitVec 32 := 0#32
  let v723 : BitVec 1 := Scalar.cmpi .eq c4_i32_489 c0_i32_490
  let c1_i32_491 : BitVec 32 := 1#32
  let v724 : BitVec 32 := Scalar.select v723 c1_i32_491 c4_i32_489
  let v725 : BitVec 32 := Scalar.remsi v722 v724
  let c0_i32_493 : BitVec 32 := 0#32
  let v727 : BitVec 1 := Scalar.cmpi .slt v725 c0_i32_493
  let c0_i32_494 : BitVec 32 := 0#32
  let v728 : BitVec 1 := Scalar.cmpi .slt v724 c0_i32_494
  let v729 : BitVec 1 := Scalar.xori v727 v728
  let c0_i32_492 : BitVec 32 := 0#32
  let v726 : BitVec 1 := Scalar.cmpi .ne v725 c0_i32_492
  let v730 : BitVec 1 := Scalar.andi v729 v726
  let v731 : BitVec 32 := Scalar.addi v725 v724
  let v732 : BitVec 32 := Scalar.select v730 v731 v725
  let c4096_i32_496 : BitVec 32 := 4096#32
  let v734 : BitVec 32 := Scalar.muli v732 c4096_i32_496
  let v735 : BitVec 32 := Scalar.addi v734 c0_i32_497
  ![v733.toNat, v735.toNat]
def k0_dev25 (d0 : Dev nD) : Nat :=
  let c0_i32_503 : BitVec 32 := 0#32
  let c1_i32_43 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v66 : BitVec 32 := Scalar.subi c1_i32_43 v2
  let c8_i32_502 : BitVec 32 := 8#32
  let v736 : BitVec 32 := Scalar.muli v66 c8_i32_502
  let v737 : BitVec 32 := Scalar.addi c0_i32_503 v736
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_504 : BitVec 32 := 4#32
  let v738 : BitVec 32 := Scalar.muli v5 c4_i32_504
  let v739 : BitVec 32 := Scalar.addi v737 v738
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_505 : BitVec 32 := 1#32
  let v740 : BitVec 32 := Scalar.muli v8 c1_i32_505
  let v741 : BitVec 32 := Scalar.addi v739 v740
  v741.toNat
def k0_dev26 (d0 : Dev nD) : Nat :=
  let c0_i32_529 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_528 : BitVec 32 := 8#32
  let v772 : BitVec 32 := Scalar.muli v2 c8_i32_528
  let v773 : BitVec 32 := Scalar.addi c0_i32_529 v772
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_530 : BitVec 32 := 4#32
  let v774 : BitVec 32 := Scalar.muli v5 c4_i32_530
  let v775 : BitVec 32 := Scalar.addi v773 v774
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_531 : BitVec 32 := 1#32
  let v776 : BitVec 32 := Scalar.muli v30 c1_i32_531
  let v777 : BitVec 32 := Scalar.addi v775 v776
  v777.toNat
def k0_dev27 (d0 : Dev nD) : Nat :=
  let c0_i32_548 : BitVec 32 := 0#32
  let c1_i32_43 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v66 : BitVec 32 := Scalar.subi c1_i32_43 v2
  let c8_i32_547 : BitVec 32 := 8#32
  let v799 : BitVec 32 := Scalar.muli v66 c8_i32_547
  let v800 : BitVec 32 := Scalar.addi c0_i32_548 v799
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_549 : BitVec 32 := 4#32
  let v801 : BitVec 32 := Scalar.muli v5 c4_i32_549
  let v802 : BitVec 32 := Scalar.addi v800 v801
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_550 : BitVec 32 := 1#32
  let v803 : BitVec 32 := Scalar.muli v8 c1_i32_550
  let v804 : BitVec 32 := Scalar.addi v802 v803
  v804.toNat
def k0_dev28 (d0 : Dev nD) : Nat :=
  let c0_i32_567 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_566 : BitVec 32 := 8#32
  let v826 : BitVec 32 := Scalar.muli v2 c8_i32_566
  let v827 : BitVec 32 := Scalar.addi c0_i32_567 v826
  let c1_i32_44 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v67 : BitVec 32 := Scalar.subi c1_i32_44 v5
  let c4_i32_568 : BitVec 32 := 4#32
  let v828 : BitVec 32 := Scalar.muli v67 c4_i32_568
  let v829 : BitVec 32 := Scalar.addi v827 v828
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_569 : BitVec 32 := 1#32
  let v830 : BitVec 32 := Scalar.muli v8 c1_i32_569
  let v831 : BitVec 32 := Scalar.addi v829 v830
  v831.toNat
def k0_dev29 (d0 : Dev nD) : Nat :=
  let c0_i32_595 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_594 : BitVec 32 := 8#32
  let v864 : BitVec 32 := Scalar.muli v2 c8_i32_594
  let v865 : BitVec 32 := Scalar.addi c0_i32_595 v864
  let c1_i32_44 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v67 : BitVec 32 := Scalar.subi c1_i32_44 v5
  let c4_i32_596 : BitVec 32 := 4#32
  let v866 : BitVec 32 := Scalar.muli v67 c4_i32_596
  let v867 : BitVec 32 := Scalar.addi v865 v866
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_597 : BitVec 32 := 1#32
  let v868 : BitVec 32 := Scalar.muli v8 c1_i32_597
  let v869 : BitVec 32 := Scalar.addi v867 v868
  v869.toNat
def k0_dev30 (d0 : Dev nD) : Nat :=
  let c0_i32_622 : BitVec 32 := 0#32
  let c1_i32_43 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v66 : BitVec 32 := Scalar.subi c1_i32_43 v2
  let c8_i32_621 : BitVec 32 := 8#32
  let v901 : BitVec 32 := Scalar.muli v66 c8_i32_621
  let v902 : BitVec 32 := Scalar.addi c0_i32_622 v901
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_623 : BitVec 32 := 4#32
  let v903 : BitVec 32 := Scalar.muli v5 c4_i32_623
  let v904 : BitVec 32 := Scalar.addi v902 v903
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_624 : BitVec 32 := 1#32
  let v905 : BitVec 32 := Scalar.muli v8 c1_i32_624
  let v906 : BitVec 32 := Scalar.addi v904 v905
  v906.toNat
def k0_dev31 (d0 : Dev nD) : Nat :=
  let c0_i32_648 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_647 : BitVec 32 := 8#32
  let v937 : BitVec 32 := Scalar.muli v2 c8_i32_647
  let v938 : BitVec 32 := Scalar.addi c0_i32_648 v937
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_649 : BitVec 32 := 4#32
  let v939 : BitVec 32 := Scalar.muli v5 c4_i32_649
  let v940 : BitVec 32 := Scalar.addi v938 v939
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_650 : BitVec 32 := 1#32
  let v941 : BitVec 32 := Scalar.muli v30 c1_i32_650
  let v942 : BitVec 32 := Scalar.addi v940 v941
  v942.toNat
def k0_dev32 (d0 : Dev nD) : Nat :=
  let c0_i32_667 : BitVec 32 := 0#32
  let c1_i32_43 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v66 : BitVec 32 := Scalar.subi c1_i32_43 v2
  let c8_i32_666 : BitVec 32 := 8#32
  let v964 : BitVec 32 := Scalar.muli v66 c8_i32_666
  let v965 : BitVec 32 := Scalar.addi c0_i32_667 v964
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_668 : BitVec 32 := 4#32
  let v966 : BitVec 32 := Scalar.muli v5 c4_i32_668
  let v967 : BitVec 32 := Scalar.addi v965 v966
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_669 : BitVec 32 := 1#32
  let v968 : BitVec 32 := Scalar.muli v8 c1_i32_669
  let v969 : BitVec 32 := Scalar.addi v967 v968
  v969.toNat
def k0_dev33 (d0 : Dev nD) : Nat :=
  let c0_i32_686 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_685 : BitVec 32 := 8#32
  let v991 : BitVec 32 := Scalar.muli v2 c8_i32_685
  let v992 : BitVec 32 := Scalar.addi c0_i32_686 v991
  let c1_i32_44 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v67 : BitVec 32 := Scalar.subi c1_i32_44 v5
  let c4_i32_687 : BitVec 32 := 4#32
  let v993 : BitVec 32 := Scalar.muli v67 c4_i32_687
  let v994 : BitVec 32 := Scalar.addi v992 v993
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_688 : BitVec 32 := 1#32
  let v995 : BitVec 32 := Scalar.muli v8 c1_i32_688
  let v996 : BitVec 32 := Scalar.addi v994 v995
  v996.toNat
def k0_dev34 (d0 : Dev nD) : Nat :=
  let c0_i32_714 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_713 : BitVec 32 := 8#32
  let v1029 : BitVec 32 := Scalar.muli v2 c8_i32_713
  let v1030 : BitVec 32 := Scalar.addi c0_i32_714 v1029
  let c1_i32_44 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v67 : BitVec 32 := Scalar.subi c1_i32_44 v5
  let c4_i32_715 : BitVec 32 := 4#32
  let v1031 : BitVec 32 := Scalar.muli v67 c4_i32_715
  let v1032 : BitVec 32 := Scalar.addi v1030 v1031
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_716 : BitVec 32 := 1#32
  let v1033 : BitVec 32 := Scalar.muli v8 c1_i32_716
  let v1034 : BitVec 32 := Scalar.addi v1032 v1033
  v1034.toNat
def k0_dev35 (d0 : Dev nD) : Nat :=
  let c0_i32_741 : BitVec 32 := 0#32
  let c1_i32_43 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v66 : BitVec 32 := Scalar.subi c1_i32_43 v2
  let c8_i32_740 : BitVec 32 := 8#32
  let v1066 : BitVec 32 := Scalar.muli v66 c8_i32_740
  let v1067 : BitVec 32 := Scalar.addi c0_i32_741 v1066
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_742 : BitVec 32 := 4#32
  let v1068 : BitVec 32 := Scalar.muli v5 c4_i32_742
  let v1069 : BitVec 32 := Scalar.addi v1067 v1068
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_743 : BitVec 32 := 1#32
  let v1070 : BitVec 32 := Scalar.muli v8 c1_i32_743
  let v1071 : BitVec 32 := Scalar.addi v1069 v1070
  v1071.toNat
def k0_dev36 (d0 : Dev nD) : Nat :=
  let c0_i32_767 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_766 : BitVec 32 := 8#32
  let v1102 : BitVec 32 := Scalar.muli v2 c8_i32_766
  let v1103 : BitVec 32 := Scalar.addi c0_i32_767 v1102
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_768 : BitVec 32 := 4#32
  let v1104 : BitVec 32 := Scalar.muli v5 c4_i32_768
  let v1105 : BitVec 32 := Scalar.addi v1103 v1104
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_769 : BitVec 32 := 1#32
  let v1106 : BitVec 32 := Scalar.muli v30 c1_i32_769
  let v1107 : BitVec 32 := Scalar.addi v1105 v1106
  v1107.toNat
def k0_dev37 (d0 : Dev nD) : Nat :=
  let c0_i32_786 : BitVec 32 := 0#32
  let c1_i32_43 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v66 : BitVec 32 := Scalar.subi c1_i32_43 v2
  let c8_i32_785 : BitVec 32 := 8#32
  let v1129 : BitVec 32 := Scalar.muli v66 c8_i32_785
  let v1130 : BitVec 32 := Scalar.addi c0_i32_786 v1129
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_787 : BitVec 32 := 4#32
  let v1131 : BitVec 32 := Scalar.muli v5 c4_i32_787
  let v1132 : BitVec 32 := Scalar.addi v1130 v1131
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_788 : BitVec 32 := 1#32
  let v1133 : BitVec 32 := Scalar.muli v8 c1_i32_788
  let v1134 : BitVec 32 := Scalar.addi v1132 v1133
  v1134.toNat
def k0_dev38 (d0 : Dev nD) : Nat :=
  let c0_i32_805 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_804 : BitVec 32 := 8#32
  let v1156 : BitVec 32 := Scalar.muli v2 c8_i32_804
  let v1157 : BitVec 32 := Scalar.addi c0_i32_805 v1156
  let c1_i32_44 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v67 : BitVec 32 := Scalar.subi c1_i32_44 v5
  let c4_i32_806 : BitVec 32 := 4#32
  let v1158 : BitVec 32 := Scalar.muli v67 c4_i32_806
  let v1159 : BitVec 32 := Scalar.addi v1157 v1158
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_807 : BitVec 32 := 1#32
  let v1160 : BitVec 32 := Scalar.muli v8 c1_i32_807
  let v1161 : BitVec 32 := Scalar.addi v1159 v1160
  v1161.toNat
def k0_dev39 (d0 : Dev nD) : Nat :=
  let c0_i32_833 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_832 : BitVec 32 := 8#32
  let v1194 : BitVec 32 := Scalar.muli v2 c8_i32_832
  let v1195 : BitVec 32 := Scalar.addi c0_i32_833 v1194
  let c1_i32_44 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v67 : BitVec 32 := Scalar.subi c1_i32_44 v5
  let c4_i32_834 : BitVec 32 := 4#32
  let v1196 : BitVec 32 := Scalar.muli v67 c4_i32_834
  let v1197 : BitVec 32 := Scalar.addi v1195 v1196
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_835 : BitVec 32 := 1#32
  let v1198 : BitVec 32 := Scalar.muli v8 c1_i32_835
  let v1199 : BitVec 32 := Scalar.addi v1197 v1198
  v1199.toNat
def k0_dev40 (d0 : Dev nD) : Nat :=
  let c0_i32_860 : BitVec 32 := 0#32
  let c1_i32_43 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v66 : BitVec 32 := Scalar.subi c1_i32_43 v2
  let c8_i32_859 : BitVec 32 := 8#32
  let v1231 : BitVec 32 := Scalar.muli v66 c8_i32_859
  let v1232 : BitVec 32 := Scalar.addi c0_i32_860 v1231
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_861 : BitVec 32 := 4#32
  let v1233 : BitVec 32 := Scalar.muli v5 c4_i32_861
  let v1234 : BitVec 32 := Scalar.addi v1232 v1233
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_862 : BitVec 32 := 1#32
  let v1235 : BitVec 32 := Scalar.muli v8 c1_i32_862
  let v1236 : BitVec 32 := Scalar.addi v1234 v1235
  v1236.toNat
def k0_dev41 (d0 : Dev nD) : Nat :=
  let c0_i32_887 : BitVec 32 := 0#32
  let c1_i32_43 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v66 : BitVec 32 := Scalar.subi c1_i32_43 v2
  let c8_i32_886 : BitVec 32 := 8#32
  let v1268 : BitVec 32 := Scalar.muli v66 c8_i32_886
  let v1269 : BitVec 32 := Scalar.addi c0_i32_887 v1268
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_888 : BitVec 32 := 4#32
  let v1270 : BitVec 32 := Scalar.muli v5 c4_i32_888
  let v1271 : BitVec 32 := Scalar.addi v1269 v1270
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_889 : BitVec 32 := 1#32
  let v1272 : BitVec 32 := Scalar.muli v8 c1_i32_889
  let v1273 : BitVec 32 := Scalar.addi v1271 v1272
  v1273.toNat
def k0_dev42 (d0 : Dev nD) : Nat :=
  let c0_i32_906 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_905 : BitVec 32 := 8#32
  let v1295 : BitVec 32 := Scalar.muli v2 c8_i32_905
  let v1296 : BitVec 32 := Scalar.addi c0_i32_906 v1295
  let c1_i32_44 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v67 : BitVec 32 := Scalar.subi c1_i32_44 v5
  let c4_i32_907 : BitVec 32 := 4#32
  let v1297 : BitVec 32 := Scalar.muli v67 c4_i32_907
  let v1298 : BitVec 32 := Scalar.addi v1296 v1297
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_908 : BitVec 32 := 1#32
  let v1299 : BitVec 32 := Scalar.muli v8 c1_i32_908
  let v1300 : BitVec 32 := Scalar.addi v1298 v1299
  v1300.toNat
def k0_dev43 (d0 : Dev nD) : Nat :=
  let c0_i32_934 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_933 : BitVec 32 := 8#32
  let v1333 : BitVec 32 := Scalar.muli v2 c8_i32_933
  let v1334 : BitVec 32 := Scalar.addi c0_i32_934 v1333
  let c1_i32_44 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v67 : BitVec 32 := Scalar.subi c1_i32_44 v5
  let c4_i32_935 : BitVec 32 := 4#32
  let v1335 : BitVec 32 := Scalar.muli v67 c4_i32_935
  let v1336 : BitVec 32 := Scalar.addi v1334 v1335
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_936 : BitVec 32 := 1#32
  let v1337 : BitVec 32 := Scalar.muli v8 c1_i32_936
  let v1338 : BitVec 32 := Scalar.addi v1336 v1337
  v1338.toNat
def k0_dev44 (d0 : Dev nD) : Nat :=
  let c0_i32_961 : BitVec 32 := 0#32
  let c1_i32_43 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v66 : BitVec 32 := Scalar.subi c1_i32_43 v2
  let c8_i32_960 : BitVec 32 := 8#32
  let v1370 : BitVec 32 := Scalar.muli v66 c8_i32_960
  let v1371 : BitVec 32 := Scalar.addi c0_i32_961 v1370
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_962 : BitVec 32 := 4#32
  let v1372 : BitVec 32 := Scalar.muli v5 c4_i32_962
  let v1373 : BitVec 32 := Scalar.addi v1371 v1372
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_963 : BitVec 32 := 1#32
  let v1374 : BitVec 32 := Scalar.muli v8 c1_i32_963
  let v1375 : BitVec 32 := Scalar.addi v1373 v1374
  v1375.toNat
def k0_dev45 (d0 : Dev nD) : Nat :=
  let c0_i32_988 : BitVec 32 := 0#32
  let c1_i32_43 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v66 : BitVec 32 := Scalar.subi c1_i32_43 v2
  let c8_i32_987 : BitVec 32 := 8#32
  let v1407 : BitVec 32 := Scalar.muli v66 c8_i32_987
  let v1408 : BitVec 32 := Scalar.addi c0_i32_988 v1407
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_989 : BitVec 32 := 4#32
  let v1409 : BitVec 32 := Scalar.muli v5 c4_i32_989
  let v1410 : BitVec 32 := Scalar.addi v1408 v1409
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_990 : BitVec 32 := 1#32
  let v1411 : BitVec 32 := Scalar.muli v8 c1_i32_990
  let v1412 : BitVec 32 := Scalar.addi v1410 v1411
  v1412.toNat
def k0_dev46 (d0 : Dev nD) : Nat :=
  let c0_i32_1007 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1006 : BitVec 32 := 8#32
  let v1434 : BitVec 32 := Scalar.muli v2 c8_i32_1006
  let v1435 : BitVec 32 := Scalar.addi c0_i32_1007 v1434
  let c1_i32_44 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v67 : BitVec 32 := Scalar.subi c1_i32_44 v5
  let c4_i32_1008 : BitVec 32 := 4#32
  let v1436 : BitVec 32 := Scalar.muli v67 c4_i32_1008
  let v1437 : BitVec 32 := Scalar.addi v1435 v1436
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1009 : BitVec 32 := 1#32
  let v1438 : BitVec 32 := Scalar.muli v8 c1_i32_1009
  let v1439 : BitVec 32 := Scalar.addi v1437 v1438
  v1439.toNat
def k0_dev47 (d0 : Dev nD) : Nat :=
  let c0_i32_1035 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1034 : BitVec 32 := 8#32
  let v1472 : BitVec 32 := Scalar.muli v2 c8_i32_1034
  let v1473 : BitVec 32 := Scalar.addi c0_i32_1035 v1472
  let c1_i32_44 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v67 : BitVec 32 := Scalar.subi c1_i32_44 v5
  let c4_i32_1036 : BitVec 32 := 4#32
  let v1474 : BitVec 32 := Scalar.muli v67 c4_i32_1036
  let v1475 : BitVec 32 := Scalar.addi v1473 v1474
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1037 : BitVec 32 := 1#32
  let v1476 : BitVec 32 := Scalar.muli v8 c1_i32_1037
  let v1477 : BitVec 32 := Scalar.addi v1475 v1476
  v1477.toNat
def k0_dev48 (d0 : Dev nD) : Nat :=
  let c0_i32_1062 : BitVec 32 := 0#32
  let c1_i32_43 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v66 : BitVec 32 := Scalar.subi c1_i32_43 v2
  let c8_i32_1061 : BitVec 32 := 8#32
  let v1509 : BitVec 32 := Scalar.muli v66 c8_i32_1061
  let v1510 : BitVec 32 := Scalar.addi c0_i32_1062 v1509
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1063 : BitVec 32 := 4#32
  let v1511 : BitVec 32 := Scalar.muli v5 c4_i32_1063
  let v1512 : BitVec 32 := Scalar.addi v1510 v1511
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1064 : BitVec 32 := 1#32
  let v1513 : BitVec 32 := Scalar.muli v8 c1_i32_1064
  let v1514 : BitVec 32 := Scalar.addi v1512 v1513
  v1514.toNat
def k0_dev49 (d0 : Dev nD) : Nat :=
  let c0_i32_1089 : BitVec 32 := 0#32
  let c1_i32_43 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v66 : BitVec 32 := Scalar.subi c1_i32_43 v2
  let c8_i32_1088 : BitVec 32 := 8#32
  let v1546 : BitVec 32 := Scalar.muli v66 c8_i32_1088
  let v1547 : BitVec 32 := Scalar.addi c0_i32_1089 v1546
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1090 : BitVec 32 := 4#32
  let v1548 : BitVec 32 := Scalar.muli v5 c4_i32_1090
  let v1549 : BitVec 32 := Scalar.addi v1547 v1548
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1091 : BitVec 32 := 1#32
  let v1550 : BitVec 32 := Scalar.muli v8 c1_i32_1091
  let v1551 : BitVec 32 := Scalar.addi v1549 v1550
  v1551.toNat
def k0_dev50 (d0 : Dev nD) : Nat :=
  let c0_i32_1108 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1107 : BitVec 32 := 8#32
  let v1573 : BitVec 32 := Scalar.muli v2 c8_i32_1107
  let v1574 : BitVec 32 := Scalar.addi c0_i32_1108 v1573
  let c1_i32_44 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v67 : BitVec 32 := Scalar.subi c1_i32_44 v5
  let c4_i32_1109 : BitVec 32 := 4#32
  let v1575 : BitVec 32 := Scalar.muli v67 c4_i32_1109
  let v1576 : BitVec 32 := Scalar.addi v1574 v1575
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1110 : BitVec 32 := 1#32
  let v1577 : BitVec 32 := Scalar.muli v8 c1_i32_1110
  let v1578 : BitVec 32 := Scalar.addi v1576 v1577
  v1578.toNat
def k0_dev51 (d0 : Dev nD) : Nat :=
  let c0_i32_1136 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1135 : BitVec 32 := 8#32
  let v1611 : BitVec 32 := Scalar.muli v2 c8_i32_1135
  let v1612 : BitVec 32 := Scalar.addi c0_i32_1136 v1611
  let c1_i32_44 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v67 : BitVec 32 := Scalar.subi c1_i32_44 v5
  let c4_i32_1137 : BitVec 32 := 4#32
  let v1613 : BitVec 32 := Scalar.muli v67 c4_i32_1137
  let v1614 : BitVec 32 := Scalar.addi v1612 v1613
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1138 : BitVec 32 := 1#32
  let v1615 : BitVec 32 := Scalar.muli v8 c1_i32_1138
  let v1616 : BitVec 32 := Scalar.addi v1614 v1615
  v1616.toNat
def k0_dev52 (d0 : Dev nD) : Nat :=
  let c0_i32_1163 : BitVec 32 := 0#32
  let c1_i32_43 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v66 : BitVec 32 := Scalar.subi c1_i32_43 v2
  let c8_i32_1162 : BitVec 32 := 8#32
  let v1648 : BitVec 32 := Scalar.muli v66 c8_i32_1162
  let v1649 : BitVec 32 := Scalar.addi c0_i32_1163 v1648
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1164 : BitVec 32 := 4#32
  let v1650 : BitVec 32 := Scalar.muli v5 c4_i32_1164
  let v1651 : BitVec 32 := Scalar.addi v1649 v1650
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1165 : BitVec 32 := 1#32
  let v1652 : BitVec 32 := Scalar.muli v8 c1_i32_1165
  let v1653 : BitVec 32 := Scalar.addi v1651 v1652
  v1653.toNat
def k0_dev53 (d0 : Dev nD) : Nat :=
  let c0_i32_1190 : BitVec 32 := 0#32
  let c1_i32_43 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v66 : BitVec 32 := Scalar.subi c1_i32_43 v2
  let c8_i32_1189 : BitVec 32 := 8#32
  let v1685 : BitVec 32 := Scalar.muli v66 c8_i32_1189
  let v1686 : BitVec 32 := Scalar.addi c0_i32_1190 v1685
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1191 : BitVec 32 := 4#32
  let v1687 : BitVec 32 := Scalar.muli v5 c4_i32_1191
  let v1688 : BitVec 32 := Scalar.addi v1686 v1687
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1192 : BitVec 32 := 1#32
  let v1689 : BitVec 32 := Scalar.muli v8 c1_i32_1192
  let v1690 : BitVec 32 := Scalar.addi v1688 v1689
  v1690.toNat
def k0_dev54 (d0 : Dev nD) : Nat :=
  let c0_i32_1209 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1208 : BitVec 32 := 8#32
  let v1712 : BitVec 32 := Scalar.muli v2 c8_i32_1208
  let v1713 : BitVec 32 := Scalar.addi c0_i32_1209 v1712
  let c1_i32_44 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v67 : BitVec 32 := Scalar.subi c1_i32_44 v5
  let c4_i32_1210 : BitVec 32 := 4#32
  let v1714 : BitVec 32 := Scalar.muli v67 c4_i32_1210
  let v1715 : BitVec 32 := Scalar.addi v1713 v1714
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1211 : BitVec 32 := 1#32
  let v1716 : BitVec 32 := Scalar.muli v8 c1_i32_1211
  let v1717 : BitVec 32 := Scalar.addi v1715 v1716
  v1717.toNat
def k0_dev55 (d0 : Dev nD) : Nat :=
  let c0_i32_1237 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1236 : BitVec 32 := 8#32
  let v1750 : BitVec 32 := Scalar.muli v2 c8_i32_1236
  let v1751 : BitVec 32 := Scalar.addi c0_i32_1237 v1750
  let c1_i32_44 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v67 : BitVec 32 := Scalar.subi c1_i32_44 v5
  let c4_i32_1238 : BitVec 32 := 4#32
  let v1752 : BitVec 32 := Scalar.muli v67 c4_i32_1238
  let v1753 : BitVec 32 := Scalar.addi v1751 v1752
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1239 : BitVec 32 := 1#32
  let v1754 : BitVec 32 := Scalar.muli v8 c1_i32_1239
  let v1755 : BitVec 32 := Scalar.addi v1753 v1754
  v1755.toNat
def k0_dev56 (d0 : Dev nD) : Nat :=
  let c0_i32_1264 : BitVec 32 := 0#32
  let c1_i32_43 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v66 : BitVec 32 := Scalar.subi c1_i32_43 v2
  let c8_i32_1263 : BitVec 32 := 8#32
  let v1787 : BitVec 32 := Scalar.muli v66 c8_i32_1263
  let v1788 : BitVec 32 := Scalar.addi c0_i32_1264 v1787
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1265 : BitVec 32 := 4#32
  let v1789 : BitVec 32 := Scalar.muli v5 c4_i32_1265
  let v1790 : BitVec 32 := Scalar.addi v1788 v1789
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1266 : BitVec 32 := 1#32
  let v1791 : BitVec 32 := Scalar.muli v8 c1_i32_1266
  let v1792 : BitVec 32 := Scalar.addi v1790 v1791
  v1792.toNat
def k0_dev57 (d0 : Dev nD) : Nat :=
  let c0_i32_1292 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1291 : BitVec 32 := 8#32
  let v1825 : BitVec 32 := Scalar.muli v2 c8_i32_1291
  let v1826 : BitVec 32 := Scalar.addi c0_i32_1292 v1825
  let c1_i32_44 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v67 : BitVec 32 := Scalar.subi c1_i32_44 v5
  let c4_i32_1293 : BitVec 32 := 4#32
  let v1827 : BitVec 32 := Scalar.muli v67 c4_i32_1293
  let v1828 : BitVec 32 := Scalar.addi v1826 v1827
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1294 : BitVec 32 := 1#32
  let v1829 : BitVec 32 := Scalar.muli v8 c1_i32_1294
  let v1830 : BitVec 32 := Scalar.addi v1828 v1829
  v1830.toNat
def k0_dev58 (d0 : Dev nD) : Nat :=
  let c0_i32_1319 : BitVec 32 := 0#32
  let c1_i32_43 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v66 : BitVec 32 := Scalar.subi c1_i32_43 v2
  let c8_i32_1318 : BitVec 32 := 8#32
  let v1862 : BitVec 32 := Scalar.muli v66 c8_i32_1318
  let v1863 : BitVec 32 := Scalar.addi c0_i32_1319 v1862
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1320 : BitVec 32 := 4#32
  let v1864 : BitVec 32 := Scalar.muli v5 c4_i32_1320
  let v1865 : BitVec 32 := Scalar.addi v1863 v1864
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1321 : BitVec 32 := 1#32
  let v1866 : BitVec 32 := Scalar.muli v8 c1_i32_1321
  let v1867 : BitVec 32 := Scalar.addi v1865 v1866
  v1867.toNat
def k0_dev59 (d0 : Dev nD) : Nat :=
  let c0_i32_1347 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1346 : BitVec 32 := 8#32
  let v1900 : BitVec 32 := Scalar.muli v2 c8_i32_1346
  let v1901 : BitVec 32 := Scalar.addi c0_i32_1347 v1900
  let c1_i32_44 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v67 : BitVec 32 := Scalar.subi c1_i32_44 v5
  let c4_i32_1348 : BitVec 32 := 4#32
  let v1902 : BitVec 32 := Scalar.muli v67 c4_i32_1348
  let v1903 : BitVec 32 := Scalar.addi v1901 v1902
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1349 : BitVec 32 := 1#32
  let v1904 : BitVec 32 := Scalar.muli v8 c1_i32_1349
  let v1905 : BitVec 32 := Scalar.addi v1903 v1904
  v1905.toNat
def k0_dev60 (d0 : Dev nD) : Nat :=
  let c0_i32_1374 : BitVec 32 := 0#32
  let c1_i32_43 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v66 : BitVec 32 := Scalar.subi c1_i32_43 v2
  let c8_i32_1373 : BitVec 32 := 8#32
  let v1937 : BitVec 32 := Scalar.muli v66 c8_i32_1373
  let v1938 : BitVec 32 := Scalar.addi c0_i32_1374 v1937
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1375 : BitVec 32 := 4#32
  let v1939 : BitVec 32 := Scalar.muli v5 c4_i32_1375
  let v1940 : BitVec 32 := Scalar.addi v1938 v1939
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1376 : BitVec 32 := 1#32
  let v1941 : BitVec 32 := Scalar.muli v8 c1_i32_1376
  let v1942 : BitVec 32 := Scalar.addi v1940 v1941
  v1942.toNat
def k0_dev61 (d0 : Dev nD) : Nat :=
  let c0_i32_1402 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1401 : BitVec 32 := 8#32
  let v1975 : BitVec 32 := Scalar.muli v2 c8_i32_1401
  let v1976 : BitVec 32 := Scalar.addi c0_i32_1402 v1975
  let c1_i32_44 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v67 : BitVec 32 := Scalar.subi c1_i32_44 v5
  let c4_i32_1403 : BitVec 32 := 4#32
  let v1977 : BitVec 32 := Scalar.muli v67 c4_i32_1403
  let v1978 : BitVec 32 := Scalar.addi v1976 v1977
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1404 : BitVec 32 := 1#32
  let v1979 : BitVec 32 := Scalar.muli v8 c1_i32_1404
  let v1980 : BitVec 32 := Scalar.addi v1978 v1979
  v1980.toNat
def k0_dev62 (d0 : Dev nD) : Nat :=
  let c0_i32_1429 : BitVec 32 := 0#32
  let c1_i32_43 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v66 : BitVec 32 := Scalar.subi c1_i32_43 v2
  let c8_i32_1428 : BitVec 32 := 8#32
  let v2012 : BitVec 32 := Scalar.muli v66 c8_i32_1428
  let v2013 : BitVec 32 := Scalar.addi c0_i32_1429 v2012
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1430 : BitVec 32 := 4#32
  let v2014 : BitVec 32 := Scalar.muli v5 c4_i32_1430
  let v2015 : BitVec 32 := Scalar.addi v2013 v2014
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1431 : BitVec 32 := 1#32
  let v2016 : BitVec 32 := Scalar.muli v8 c1_i32_1431
  let v2017 : BitVec 32 := Scalar.addi v2015 v2016
  v2017.toNat
def k0_dev63 (d0 : Dev nD) : Nat :=
  let c0_i32_1457 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1456 : BitVec 32 := 8#32
  let v2050 : BitVec 32 := Scalar.muli v2 c8_i32_1456
  let v2051 : BitVec 32 := Scalar.addi c0_i32_1457 v2050
  let c1_i32_44 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v67 : BitVec 32 := Scalar.subi c1_i32_44 v5
  let c4_i32_1458 : BitVec 32 := 4#32
  let v2052 : BitVec 32 := Scalar.muli v67 c4_i32_1458
  let v2053 : BitVec 32 := Scalar.addi v2051 v2052
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1459 : BitVec 32 := 1#32
  let v2054 : BitVec 32 := Scalar.muli v8 c1_i32_1459
  let v2055 : BitVec 32 := Scalar.addi v2053 v2054
  v2055.toNat
def k0_dev64 (d0 : Dev nD) : Nat :=
  let c0_i32_1484 : BitVec 32 := 0#32
  let c1_i32_43 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v66 : BitVec 32 := Scalar.subi c1_i32_43 v2
  let c8_i32_1483 : BitVec 32 := 8#32
  let v2087 : BitVec 32 := Scalar.muli v66 c8_i32_1483
  let v2088 : BitVec 32 := Scalar.addi c0_i32_1484 v2087
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1485 : BitVec 32 := 4#32
  let v2089 : BitVec 32 := Scalar.muli v5 c4_i32_1485
  let v2090 : BitVec 32 := Scalar.addi v2088 v2089
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1486 : BitVec 32 := 1#32
  let v2091 : BitVec 32 := Scalar.muli v8 c1_i32_1486
  let v2092 : BitVec 32 := Scalar.addi v2090 v2091
  v2092.toNat
def k0_off6 (d0 : Dev nD) : Fin 2 → Nat :=
  let c0_1488 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4096_i32_1487 : BitVec 32 := 4096#32
  let v2099 : BitVec 32 := Scalar.muli v8 c4096_i32_1487
  let v2100 : Index := Scalar.indexCast v2099
  ![0, v2100.toNat]
def k0_off7 (d0 : Dev nD) (c0_i32_1554 : BitVec 32) : Fin 2 → Nat :=
  let c0_1563 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v2185 : BitVec 32 := Scalar.subi v8 c0_i32_1554
  let c1_i32_1555 : BitVec 32 := 1#32
  let v2186 : BitVec 32 := Scalar.subi v2185 c1_i32_1555
  let c4_i32_1556 : BitVec 32 := 4#32
  let c0_i32_1557 : BitVec 32 := 0#32
  let v2187 : BitVec 1 := Scalar.cmpi .eq c4_i32_1556 c0_i32_1557
  let c1_i32_1558 : BitVec 32 := 1#32
  let v2188 : BitVec 32 := Scalar.select v2187 c1_i32_1558 c4_i32_1556
  let v2189 : BitVec 32 := Scalar.remsi v2186 v2188
  let c0_i32_1560 : BitVec 32 := 0#32
  let v2191 : BitVec 1 := Scalar.cmpi .slt v2189 c0_i32_1560
  let c0_i32_1561 : BitVec 32 := 0#32
  let v2192 : BitVec 1 := Scalar.cmpi .slt v2188 c0_i32_1561
  let v2193 : BitVec 1 := Scalar.xori v2191 v2192
  let c0_i32_1559 : BitVec 32 := 0#32
  let v2190 : BitVec 1 := Scalar.cmpi .ne v2189 c0_i32_1559
  let v2194 : BitVec 1 := Scalar.andi v2193 v2190
  let v2195 : BitVec 32 := Scalar.addi v2189 v2188
  let v2196 : BitVec 32 := Scalar.select v2194 v2195 v2189
  let c4096_i32_1562 : BitVec 32 := 4096#32
  let v2197 : BitVec 32 := Scalar.muli v2196 c4096_i32_1562
  let v2198 : Index := Scalar.indexCast v2197
  ![0, v2198.toNat]
abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x16384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S256x512 : Shape := ⟨2, ![256, 512]⟩
abbrev S512x16384 : Shape := ⟨2, ![512, 16384]⟩
abbrev S256x16384 : Shape := ⟨2, ![256, 16384]⟩
abbrev S_ : Shape := ⟨0, ![]⟩
abbrev S256 : Shape := ⟨1, ![256]⟩
abbrev S256x1 : Shape := ⟨2, ![256, 1]⟩

abbrev nBuf : Space → Nat
  | .hbm => 14
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S512x16384, .f32⟩
  | .hbm, ⟨2, _⟩ => ⟨S256x16384, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S256x16384, .f32⟩
  | .hbm, ⟨7, _⟩ => ⟨S256x16384, .f32⟩
  | .hbm, ⟨8, _⟩ => ⟨S256x16384, .f32⟩
  | .hbm, ⟨9, _⟩ => ⟨S_, .f32⟩
  | .hbm, ⟨10, _⟩ => ⟨S256, .f32⟩
  | .hbm, ⟨11, _⟩ => ⟨S256x1, .f32⟩
  | .hbm, ⟨12, _⟩ => ⟨S256x16384, .f32⟩
  | .hbm, ⟨13, _⟩ => ⟨S256x16384, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Proof.Mesh.lean ====
/-
# The 2 × 2 × 4 mesh and the pieces of the gathered matrix

Sixteen devices `d = 8 x + 4 y + z`. Every device ends with the whole 256 × 16384 matrix of exponentials. Its column
chunk `z` (4096 columns) it computes itself, in four slices of 1024 columns. The rest arrives by sixty transfers per device, named here by
a kind, a hop `h` and a slice `s`:

* kind 0, the ring: quarter `2x+y` of the rows of a chunk, one device further along `z`;
* kinds 1 and 2: the same quarter, as received along the ring, to the neighbour across `x` and across `y`;
* kinds 3 and 4: half of the quarter received from the neighbour across `y` (`x`), forwarded across `x` (`y`).

This file is arithmetic only: who sends which rectangle to whom, in which order the program issues and awaits the
transfers, that the rectangles landing on one device are disjoint and, with its own chunk, cover the matrix.
-/
module

public import Idealize.ShloMosaic.Shape

@[expose] public section

namespace Cert.Gather

open Idealize.ShloMosaic

/-- A device of the mesh. -/
abbrev D := Fin 16
/-- A transfer: kind, hop, slice. -/
abbrev Tr := Fin 5 × Fin 3 × Fin 4
/-- The gathered matrix. -/
abbrev G : Shape := ⟨2, ![256, 16384]⟩

/-! ## Neighbours -/

/-- The next device along `z`. -/
def rt (c : D) : D := ⟨c.val - c.val % 4 + (c.val + 1) % 4, by omega⟩
/-- The previous device along `z`. -/
def lf (c : D) : D := ⟨c.val - c.val % 4 + (c.val + 3) % 4, by omega⟩
/-- The device across `x`. -/
def xn (c : D) : D := ⟨(c.val + 8) % 16, by omega⟩
/-- The device across `y`. -/
def yn (c : D) : D := ⟨8 * (c.val / 8) + (c.val + 4) % 8, by omega⟩

/-- Where a transfer of kind `k` issued by `c` goes. -/
def tgt (k : Fin 5) (c : D) : D := bif k.val == 0 then rt c else bif k.val % 2 == 1 then xn c else yn c
/-- Where the transfer of kind `k` landing on `c` comes from. -/
def org (k : Fin 5) (c : D) : D := bif k.val == 0 then lf c else bif k.val % 2 == 1 then xn c else yn c

theorem tgt_org (k : Fin 5) (c : D) : tgt k (org k c) = c := by revert k c; decide
theorem org_tgt (k : Fin 5) (c : D) : org k (tgt k c) = c := by revert k c; decide

/-- The four neighbours a device signals before anything else, in order. -/
def peer (k : Fin 4) (c : D) : D :=
  bif k.val == 0 then lf c else bif k.val == 1 then rt c else bif k.val == 2 then xn c else yn c
/-- The device whose `k`-th signal reaches `c`. -/
def payer (k : Fin 4) (c : D) : D :=
  bif k.val == 0 then rt c else bif k.val == 1 then lf c else bif k.val == 2 then xn c else yn c
theorem peer_payer (k : Fin 4) (c : D) : peer k (payer k c) = c := by revert k c; decide
theorem payer_peer (k : Fin 4) (c : D) : payer k (peer k c) = c := by revert k c; decide
/-- Which signal tells a device that it may issue its transfers of kind `k`. -/
def leave (k : Fin 5) : Fin 4 := bif k.val == 0 then 0 else bif k.val % 2 == 1 then 2 else 3
theorem payer_leave (k : Fin 5) (c : D) : payer (leave k) c = tgt k c := by revert k c; decide
theorem peer_leave (k : Fin 5) (c : D) : peer (leave k) c = org k c := by revert k c; decide

/-- Transfers of one direction share the source's share of the buffer: along `z`, across `x`, across `y`. -/
def dir (k : Fin 5) : Fin 3 := bif k.val == 0 then 0 else bif k.val % 2 == 1 then 1 else 2

/-! ## Rectangles -/

/-- A rectangle of the matrix: first row, rows, first column, columns. -/
structure Box where
  r : ℕ
  nr : ℕ
  c : ℕ
  nc : ℕ
deriving DecidableEq

namespace Box

/-- The entries of a rectangle. -/
def cells (b : Box) : Finset G.Idx :=
  Finset.univ.filter fun i => (b.r ≤ (i 0).val ∧ (i 0).val < b.r + b.nr) ∧ b.c ≤ (i 1).val ∧ (i 1).val < b.c + b.nc

theorem mem_cells {b : Box} {i : G.Idx} :
    i ∈ b.cells ↔ (b.r ≤ (i 0).val ∧ (i 0).val < b.r + b.nr) ∧ b.c ≤ (i 1).val ∧ (i 1).val < b.c + b.nc := by
  unfold cells; simp only [Finset.mem_filter, Finset.mem_univ, true_and]

/-- The first rectangle lies in the second. -/
def within (a b : Box) : Bool :=
  b.r ≤ a.r && a.r + a.nr ≤ b.r + b.nr && b.c ≤ a.c && a.c + a.nc ≤ b.c + b.nc

/-- The rectangles have no entry in common. -/
def apart (a b : Box) : Bool :=
  a.r + a.nr ≤ b.r || b.r + b.nr ≤ a.r || a.c + a.nc ≤ b.c || b.c + b.nc ≤ a.c

theorem subset_of_within {a b : Box} (h : a.within b = true) : a.cells ⊆ b.cells := by
  simp only [within, Bool.and_eq_true, decide_eq_true_eq] at h
  intro i hi
  rw [mem_cells] at hi ⊢
  omega

theorem disjoint_of_apart {a b : Box} (h : a.apart b = true) : Disjoint a.cells b.cells := by
  simp only [apart, Bool.or_eq_true, decide_eq_true_eq] at h
  refine Finset.disjoint_left.mpr fun i hi hj => ?_
  rw [mem_cells] at hi hj
  omega

end Box

/-- Slice `s` of the chunk a device computes itself. -/
def own (c : D) (s : Fin 4) : Box := ⟨0, 256, 4096 * (c.val % 4) + 1024 * s.val, 1024⟩

/-- The first row a transfer of kind `k` moves from `c`. -/
def row0 (c : D) (k : Fin 5) : ℕ :=
  bif k.val == 3 then 64 * ((yn c).val / 4) else bif k.val == 4 then 64 * ((xn c).val / 4) + 32 else 64 * (c.val / 4)
/-- How many rows it moves. -/
def rows (k : Fin 5) : ℕ := bif k.val < 3 then 64 else 32
/-- The chunk of columns it moves. -/
def chunk (c : D) (k : Fin 5) (h : Fin 3) : ℕ := bif k.val == 0 then (c.val + 4 - h.val) % 4 else (c.val + 3 - h.val) % 4

/-- The rectangle transfer `j` reads on `c` — and writes, at the same place, on `tgt j.1 c`. -/
def src (c : D) (j : Tr) : Box := ⟨row0 c j.1, rows j.1, 4096 * chunk c j.1 j.2.1 + 1024 * j.2.2.val, 1024⟩
/-- The rectangle transfer `j` writes on `c`. -/
def land (c : D) (j : Tr) : Box := src (org j.1 c) j
theorem land_tgt (c : D) (j : Tr) : land (tgt j.1 c) j = src c j := by unfold land; rw [org_tgt]

/-- The four whole chunks a device sums, in order: its own, then the one before it along `z`, and so on. -/
def whole (c : D) (e : ℕ) : Box := ⟨0, 256, 4096 * ((c.val + 4 - e) % 4), 4096⟩

/-! ## Order of issue, of receipt, and of the closing waits -/

/-- A transfer's number: kind by kind, hop by hop, slice by slice. It is also its place in the order a device awaits the
    completion of its own transfers at the end. -/
def ordW (j : Tr) : ℕ := 12 * j.1.val + 4 * j.2.1.val + j.2.2.val

/-- The place of transfer `j` in the order a device issues its own: one line per kind. -/
def ord (j : Tr) : ℕ :=
  [0, 1, 2, 3, 4, 7, 10, 13, 16, 21, 26, 31,
   5, 8, 11, 14, 17, 22, 27, 32, 36, 40, 44, 48,
   6, 9, 12, 15, 18, 23, 28, 33, 37, 41, 45, 49,
   20, 25, 30, 35, 39, 43, 47, 51, 53, 55, 57, 59,
   19, 24, 29, 34, 38, 42, 46, 50, 52, 54, 56, 58].getD (ordW j) 0

/-- Its place in the order a device awaits those landing on it. -/
def ordR (j : Tr) : ℕ :=
  [0, 1, 2, 3, 4, 7, 10, 13, 16, 19, 22, 25,
   5, 8, 11, 14, 17, 20, 23, 26, 28, 30, 32, 34,
   6, 9, 12, 15, 18, 21, 24, 27, 29, 31, 33, 35,
   36, 38, 40, 42, 44, 46, 48, 50, 52, 54, 56, 58,
   37, 39, 41, 43, 45, 47, 49, 51, 53, 55, 57, 59].getD (ordW j) 0

theorem ord_inj : ∀ j j' : Tr, ord j = ord j' → j = j' := by decide +kernel
theorem ordR_inj : ∀ j j' : Tr, ordR j = ordR j' → j = j' := by decide +kernel
theorem ordW_inj : ∀ j j' : Tr, ordW j = ordW j' → j = j' := by decide +kernel
theorem ord_lt : ∀ j : Tr, ord j < 60 := by decide +kernel
theorem ordR_lt : ∀ j : Tr, ordR j < 60 := by decide +kernel
theorem ordW_lt : ∀ j : Tr, ordW j < 60 := by decide +kernel

/-! ## Facts about the rectangles, checked over all devices and transfers -/

theorem apart_slice (r nr r' nr' a b : ℕ) (s s' : Fin 4) (h : s ≠ s') :
    (Box.mk r nr (4096 * a + 1024 * s.val) 1024).apart (Box.mk r' nr' (4096 * b + 1024 * s'.val) 1024) = true := by
  have h1 : s.val ≠ s'.val := fun e => h (Fin.ext e)
  have := s.isLt; have := s'.isLt
  simp only [Box.apart, Bool.or_eq_true, decide_eq_true_eq]; omega

theorem apart_shift {r nr r' nr' a b t : ℕ} (h : (Box.mk r nr (4096 * a + 1024 * 0) 1024).apart (Box.mk r' nr' (4096 * b + 1024 * 0) 1024) = true) :
    (Box.mk r nr (4096 * a + 1024 * t) 1024).apart (Box.mk r' nr' (4096 * b + 1024 * t) 1024) = true := by
  simp only [Box.apart, Bool.or_eq_true, decide_eq_true_eq] at h ⊢; omega

theorem within_shift {r nr r' nr' a b t : ℕ} (h : (Box.mk r nr (4096 * a + 1024 * 0) 1024).within (Box.mk r' nr' (4096 * b + 1024 * 0) 1024) = true) :
    (Box.mk r nr (4096 * a + 1024 * t) 1024).within (Box.mk r' nr' (4096 * b + 1024 * t) 1024) = true := by
  simp only [Box.within, Bool.and_eq_true, decide_eq_true_eq] at h ⊢; omega

/-- No two slices or landing rectangles of one device meet. -/
theorem own_apart (c : D) (s s' : Fin 4) (h : s ≠ s') : (own c s).apart (own c s') = true := apart_slice _ _ _ _ _ _ _ _ h

theorem own_apart_land₀ : ∀ c : D, ∀ k : Fin 5, ∀ h : Fin 3, (own c 0).apart (land c (k, h, 0)) = true := by decide +kernel
theorem own_apart_land (c : D) (s : Fin 4) (j : Tr) : (own c s).apart (land c j) = true := by
  obtain ⟨k, h, s'⟩ := j
  by_cases e : s = s'
  · subst e; exact apart_shift (own_apart_land₀ c k h)
  · exact apart_slice _ _ _ _ _ _ _ _ e

theorem land_apart₀ : ∀ c : D, ∀ k k' : Fin 5, ∀ h h' : Fin 3,
    (k.val == k'.val && h.val == h'.val || (land c (k, h, 0)).apart (land c (k', h', 0))) = true := by decide +kernel
theorem land_apart (c : D) (j j' : Tr) (ne : j ≠ j') : (land c j).apart (land c j') = true := by
  obtain ⟨k, h, s⟩ := j
  obtain ⟨k', h', s'⟩ := j'
  by_cases e : s = s'
  · subst e
    have := land_apart₀ c k k' h h'
    simp only [Bool.or_eq_true, Bool.and_eq_true, beq_iff_eq] at this
    rcases this with ⟨h1, h2⟩ | h1
    · exact absurd (by rw [Fin.ext h1, Fin.ext h2]) ne
    · exact apart_shift h1
  · exact apart_slice _ _ _ _ _ _ _ _ e

theorem src_apart₀ : ∀ c : D, ∀ k k' : Fin 5, ∀ h h' : Fin 3,
    ((dir k).val != (dir k').val || k.val == k'.val && h.val == h'.val || (src c (k, h, 0)).apart (src c (k', h', 0))) = true := by
  decide +kernel
/-- Nor do the rectangles that a device's transfers of one direction read. -/
theorem src_apart (c : D) (j j' : Tr) (hd : dir j.1 = dir j'.1) (ne : j ≠ j') : (src c j).apart (src c j') = true := by
  obtain ⟨k, h, s⟩ := j
  obtain ⟨k', h', s'⟩ := j'
  by_cases e : s = s'
  · subst e
    have := src_apart₀ c k k' h h'
    simp only [Bool.or_eq_true, Bool.and_eq_true, beq_iff_eq, bne_iff_ne] at this
    rcases this with (h1 | ⟨h1, h2⟩) | h1
    · exact absurd (congrArg Fin.val hd) h1
    · exact absurd (by rw [Fin.ext h1, Fin.ext h2]) ne
    · exact apart_shift h1
  · exact apart_slice _ _ _ _ _ _ _ _ e

/-- What must have landed before a transfer can be issued: nothing for the ring's first hop, whose rectangle is the device's own. -/
def needs (k : Fin 5) (h : Fin 3) : Option (Fin 5 × Fin 3) :=
  bif k.val == 0 then (bif h.val == 0 then none else bif h.val == 1 then some (0, 0) else some (0, 1))
  else some (bif k.val < 3 then (0, h) else bif k.val == 3 then (2, h) else (1, h))

/-- With `w` own slices computed and `u` transfers received, `j` can be issued. -/
def ready (j : Tr) (w u : ℕ) : Bool := match needs j.1 j.2.1 with
  | none => decide (j.2.2.val < w)
  | some p => decide (ordR (p.1, p.2, j.2.2) < u)

theorem src_within₀ : ∀ c : D, ∀ k : Fin 5, ∀ h : Fin 3,
    (match needs k h with | none => (src c (k, h, 0)).within (own c 0) | some p => (src c (k, h, 0)).within (land c (p.1, p.2, 0))) = true := by
  decide +kernel

/-- In the 32-row band `a` the kind of transfer that brings a chunk not the device's own. -/
def kindOf (c : D) (a : ℕ) : Fin 5 :=
  bif a / 2 == c.val / 4 then 0 else bif a / 2 == (xn c).val / 4 then 1 else bif a / 2 == (yn c).val / 4 then 2
  else bif a % 2 == 0 then 3 else 4

theorem tile_hop₀ : ∀ c : D, ∀ h : Fin 3, ∀ a : Fin 8,
    (Box.mk (32 * a.val) 32 (4096 * ((c.val + 3 - h.val) % 4) + 1024 * 0) 1024).within (land c (kindOf c a.val, h, 0)) = true := by
  decide +kernel

theorem ordR_hop : ∀ k : Fin 5, ∀ h : Fin 3, ∀ s : Fin 4, ordR (k, h, s) < 44 + 8 * h.val := by decide +kernel

/-- The device that computes the entries of row quarter `q`, chunk `ch` held by `c`. -/
def maker (c : D) (q ch : ℕ) : ℕ := bif ch == c.val % 4 then c.val else 4 * q + ch

theorem src_maker₀ : ∀ c : D, ∀ k : Fin 5, ∀ h : Fin 3,
    maker c ((src c (k, h, 0)).r / 64) (chunk c k h) = maker (tgt k c) ((src c (k, h, 0)).r / 64) (chunk c k h)
      ∧ (src c (k, h, 0)).r + (src c (k, h, 0)).nr ≤ 64 * ((src c (k, h, 0)).r / 64) + 64 := by
  decide +kernel

theorem src_within (c : D) (j : Tr) :
    match needs j.1 j.2.1 with
    | none => (src c j).within (own c j.2.2) = true
    | some p => (src c j).within (land c (p.1, p.2, j.2.2)) = true := by
  obtain ⟨k, h, s⟩ := j
  have := src_within₀ c k h
  revert this
  dsimp only
  cases needs k h with
  | none => intro h; exact within_shift h
  | some p => intro h; exact within_shift h

/-! ## What a device holds, and what its transfers read -/

/-- The entries a device holds with `w` own slices computed and `u` transfers received. -/
def K (c : D) (w u : ℕ) : Finset G.Idx :=
  (Finset.univ.filter fun s : Fin 4 => s.val < w).biUnion (fun s => (own c s).cells)
    ∪ (Finset.univ.filter fun j : Tr => ordR j < u).biUnion fun j => (land c j).cells

theorem mem_K {c : D} {w u : ℕ} {i : G.Idx} :
    i ∈ K c w u ↔ (∃ s : Fin 4, s.val < w ∧ i ∈ (own c s).cells) ∨ ∃ j : Tr, ordR j < u ∧ i ∈ (land c j).cells := by
  simp only [K, Finset.mem_union, Finset.mem_biUnion, Finset.mem_filter, Finset.mem_univ, true_and]

theorem K_zero (c : D) : K c 0 0 = ∅ := by
  ext i; rw [mem_K]; simp

theorem K_own (c : D) (s : Fin 4) (u : ℕ) : K c (s.val + 1) u = K c s.val u ∪ (own c s).cells := by
  ext i
  rw [Finset.mem_union, mem_K, mem_K]
  constructor
  · rintro (⟨s', h, hi⟩ | h)
    · by_cases e : s' = s
      · exact .inr (e ▸ hi)
      · exact .inl (.inl ⟨s', by have : s'.val ≠ s.val := fun h => e (Fin.ext h); omega, hi⟩)
    · exact .inl (.inr h)
  · rintro ((⟨s', h, hi⟩ | h) | h)
    · exact .inl ⟨s', by omega, hi⟩
    · exact .inr h
    · exact .inl ⟨s, by omega, h⟩

theorem own_disjoint_K (c : D) (s : Fin 4) (u : ℕ) : Disjoint (own c s).cells (K c s.val u) := by
  refine Finset.disjoint_right.mpr fun i hi => ?_
  rcases mem_K.mp hi with ⟨s', h, hi⟩ | ⟨j, -, hi⟩
  · exact Finset.disjoint_right.mp (Box.disjoint_of_apart (own_apart c s s' fun e => by rw [e] at h; omega)) hi
  · exact Finset.disjoint_right.mp (Box.disjoint_of_apart (own_apart_land c s j)) hi

theorem K_land (c : D) (j : Tr) (w : ℕ) : K c w (ordR j + 1) = K c w (ordR j) ∪ (land c j).cells := by
  ext i
  rw [Finset.mem_union, mem_K, mem_K]
  constructor
  · rintro (h | ⟨j', h, hi⟩)
    · exact .inl (.inl h)
    · by_cases e : j' = j
      · exact .inr (e ▸ hi)
      · exact .inl (.inr ⟨j', by have : ordR j' ≠ ordR j := fun h => e (ordR_inj j' j h); omega, hi⟩)
  · rintro ((h | ⟨j', h, hi⟩) | h)
    · exact .inl h
    · exact .inr ⟨j', by omega, hi⟩
    · exact .inr ⟨j, by omega, h⟩

theorem land_disjoint_K (c : D) (j : Tr) (w : ℕ) : Disjoint (land c j).cells (K c w (ordR j)) := by
  refine Finset.disjoint_right.mpr fun i hi => ?_
  rcases mem_K.mp hi with ⟨s', h, hi⟩ | ⟨j', h, hi⟩
  · exact Finset.disjoint_left.mp (Box.disjoint_of_apart (own_apart_land c s' j)) hi
  · exact Finset.disjoint_right.mp (Box.disjoint_of_apart (land_apart c j j' fun e => by rw [e] at h; omega)) hi

/-- What a ready transfer reads is held. -/
theorem src_K {c : D} {j : Tr} {w u : ℕ} (h : ready j w u = true) : (src c j).cells ⊆ K c w u := by
  have hs := src_within c j
  unfold ready at h
  revert h hs
  cases needs j.1 j.2.1 with
  | none =>
    intro h hs i hi
    exact mem_K.mpr (.inl ⟨j.2.2, of_decide_eq_true h, Box.subset_of_within hs hi⟩)
  | some p =>
    intro h hs i hi
    exact mem_K.mpr (.inr ⟨_, of_decide_eq_true h, Box.subset_of_within hs hi⟩)

/-- Its own chunk a device holds once its four slices are computed. -/
theorem own_chunk_K (c : D) (u : ℕ) : (whole c 0).cells ⊆ K c 4 u := by
  intro i hi
  have hi := Box.mem_cells.mp hi
  simp only [whole] at hi
  have h0 := hi.2.1; have h1 := hi.2.2
  refine mem_K.mpr (.inl ⟨⟨((i 1).val - 4096 * (c.val % 4)) / 1024, by omega⟩, by simp only []; omega, Box.mem_cells.mpr ?_⟩)
  simp only [own]
  omega

/-- The chunk `h + 1` places back it holds once the transfers of hop `h` are received. -/
theorem hop_chunk_K (c : D) (h : Fin 3) : (whole c (h.val + 1)).cells ⊆ K c 4 (44 + 8 * h.val) := by
  intro i hi
  have hi := Box.mem_cells.mp hi
  simp only [whole] at hi
  have hr : (i 0).val < 256 := (i 0).isLt
  have h1 := hi.2.1; have h2 := hi.2.2
  have hc : (c.val + 4 - (h.val + 1)) % 4 = (c.val + 3 - h.val) % 4 := by congr 1; omega
  rw [hc] at h1 h2
  have ht := tile_hop₀ c h ⟨(i 0).val / 32, by omega⟩
  have ht := within_shift (t := ((i 1).val - 4096 * ((c.val + 3 - h.val) % 4)) / 1024) ht
  refine mem_K.mpr (.inr ⟨(kindOf c ((i 0).val / 32), h, ⟨((i 1).val - 4096 * ((c.val + 3 - h.val) % 4)) / 1024, by omega⟩),
    ordR_hop _ _ _, Box.subset_of_within ht (Box.mem_cells.mpr ?_)⟩)
  simp only
  omega

theorem K_mono {c : D} {w w' u u' : ℕ} (hw : w ≤ w') (hu : u ≤ u') : K c w u ⊆ K c w' u' := by
  intro i hi
  rcases mem_K.mp hi with ⟨s', h, hi⟩ | ⟨j', h, hi⟩
  · exact mem_K.mpr (.inl ⟨s', by omega, hi⟩)
  · exact mem_K.mpr (.inr ⟨j', by omega, hi⟩)

/-- In the end it holds everything. -/
theorem K_univ (c : D) : K c 4 60 = Finset.univ := by
  refine Finset.eq_univ_iff_forall.mpr fun i => ?_
  have h1 : (i 1).val < 16384 := (i 1).isLt
  have h0 : (i 0).val < 256 := (i 0).isLt
  by_cases e : (i 1).val / 4096 = c.val % 4
  · refine own_chunk_K c 60 (Box.mem_cells.mpr ?_)
    simp only [whole]
    omega
  · have hh : (c.val + 3 - (i 1).val / 4096) % 4 < 3 := by omega
    refine K_mono (le_refl 4) (by simp only; omega) (hop_chunk_K c ⟨(c.val + 3 - (i 1).val / 4096) % 4, hh⟩ (Box.mem_cells.mpr ?_))
    simp only [whole]
    omega

/-- The cells that the transfers of direction `d`, numbered from `a` up to `b` in an order, read. -/
def Fly (c : D) (o : Tr → ℕ) (a b : ℕ) (d : Fin 3) : Finset G.Idx :=
  (Finset.univ.filter fun j : Tr => dir j.1 = d ∧ a ≤ o j ∧ o j < b).biUnion fun j => (src c j).cells

theorem mem_Fly {c : D} {o : Tr → ℕ} {a b : ℕ} {d : Fin 3} {i : G.Idx} :
    i ∈ Fly c o a b d ↔ ∃ j : Tr, (dir j.1 = d ∧ a ≤ o j ∧ o j < b) ∧ i ∈ (src c j).cells := by
  simp only [Fly, Finset.mem_biUnion, Finset.mem_filter, Finset.mem_univ, true_and]

theorem Fly_zero (c : D) (o : Tr → ℕ) (a : ℕ) (d : Fin 3) : Fly c o a a d = ∅ := by
  refine Finset.eq_empty_iff_forall_notMem.mpr fun i hi => ?_
  obtain ⟨j, h, -⟩ := mem_Fly.mp hi
  omega

/-- Issuing `j` adds what it reads to its direction, and nothing to the others. -/
theorem Fly_issue (c : D) (j : Tr) (d : Fin 3) :
    Fly c ord 0 (ord j + 1) d = if d = dir j.1 then Fly c ord 0 (ord j) d ∪ (src c j).cells else Fly c ord 0 (ord j) d := by
  split
  · next hd =>
    ext i
    rw [Finset.mem_union, mem_Fly, mem_Fly]
    constructor
    · rintro ⟨j', h, hi⟩
      by_cases e : j' = j
      · exact .inr (e ▸ hi)
      · exact .inl ⟨j', ⟨h.1, h.2.1, by have : ord j' ≠ ord j := fun h => e (ord_inj j' j h); omega⟩, hi⟩
    · rintro (⟨j', h, hi⟩ | h)
      · exact ⟨j', ⟨h.1, h.2.1, by omega⟩, hi⟩
      · exact ⟨j, ⟨hd.symm, by omega, by omega⟩, h⟩
  · next hd =>
    ext i
    rw [mem_Fly, mem_Fly]
    constructor
    · rintro ⟨j', h, hi⟩
      by_cases e : j' = j
      · exact absurd (e ▸ h.1).symm hd
      · exact ⟨j', ⟨h.1, h.2.1, by have : ord j' ≠ ord j := fun h => e (ord_inj j' j h); omega⟩, hi⟩
    · rintro ⟨j', h, hi⟩
      exact ⟨j', ⟨h.1, h.2.1, by omega⟩, hi⟩

theorem src_disjoint_Fly (c : D) (j : Tr) : Disjoint (src c j).cells (Fly c ord 0 (ord j) (dir j.1)) := by
  refine Finset.disjoint_right.mpr fun i hi => ?_
  obtain ⟨j', h, hi⟩ := mem_Fly.mp hi
  exact Finset.disjoint_right.mp (Box.disjoint_of_apart (src_apart c j j' h.1.symm fun e => by rw [e] at h; omega)) hi

/-- The completion of `j` takes what it reads from its direction, and nothing from the others. -/
theorem Fly_back (c : D) (j : Tr) (d : Fin 3) :
    Fly c ordW (ordW j + 1) 60 d = if d = dir j.1 then Fly c ordW (ordW j) 60 d \ (src c j).cells else Fly c ordW (ordW j) 60 d := by
  split
  · next hd =>
    ext i
    rw [Finset.mem_sdiff, mem_Fly, mem_Fly]
    constructor
    · rintro ⟨j', h, hi⟩
      refine ⟨⟨j', ⟨h.1, by omega, h.2.2⟩, hi⟩, fun hj => ?_⟩
      exact Finset.disjoint_left.mp (Box.disjoint_of_apart (src_apart c j j' (by rw [h.1, hd]) fun e => by rw [e] at h; omega)) hj hi
    · rintro ⟨⟨j', h, hi⟩, hj⟩
      by_cases e : j' = j
      · exact absurd (e ▸ hi) hj
      · exact ⟨j', ⟨h.1, by have : ordW j' ≠ ordW j := fun h => e (ordW_inj j' j h); omega, h.2.2⟩, hi⟩
  · next hd =>
    ext i
    rw [mem_Fly, mem_Fly]
    constructor
    · rintro ⟨j', h, hi⟩
      exact ⟨j', ⟨h.1, by omega, h.2.2⟩, hi⟩
    · rintro ⟨j', h, hi⟩
      by_cases e : j' = j
      · exact absurd (e ▸ h.1).symm hd
      · exact ⟨j', ⟨h.1, by have : ordW j' ≠ ordW j := fun h => e (ordW_inj j' j h); omega, h.2.2⟩, hi⟩

theorem src_sub_Fly (c : D) (j : Tr) : (src c j).cells ⊆ Fly c ordW (ordW j) 60 (dir j.1) := fun _ hi =>
  mem_Fly.mpr ⟨j, ⟨rfl, le_refl _, ordW_lt j⟩, hi⟩

/-- All issued is all still to be awaited. -/
theorem Fly_turn (c : D) (d : Fin 3) : Fly c ord 0 60 d = Fly c ordW 0 60 d := by
  ext i
  rw [mem_Fly, mem_Fly]
  exact ⟨fun ⟨j, h, hi⟩ => ⟨j, ⟨h.1, Nat.zero_le _, ordW_lt j⟩, hi⟩, fun ⟨j, h, hi⟩ => ⟨j, ⟨h.1, Nat.zero_le _, ord_lt j⟩, hi⟩⟩

/-! ## Who computed an entry -/

/-- The device that computes the entry `i` of the matrix held by `c`. -/
def owner (c : D) (i : G.Idx) : D :=
  ⟨maker c ((i 0).val / 64) ((i 1).val / 4096), by
    have h0 : (i 0).val < 256 := (i 0).isLt
    have h1 : (i 1).val < 16384 := (i 1).isLt
    unfold maker
    cases (i 1).val / 4096 == c.val % 4 <;> simp only [cond_true, cond_false] <;> omega⟩

/-- Sender and receiver of a transfer agree on who computed the entries it moves. -/
theorem owner_src (c : D) (j : Tr) {i : G.Idx} (hi : i ∈ (src c j).cells) : owner c i = owner (tgt j.1 c) i := by
  obtain ⟨k, h, s⟩ := j
  have hm := src_maker₀ c k h
  have hi := Box.mem_cells.mp hi
  have hs := s.isLt
  simp only [src] at hi hm
  have e0 : (i 0).val / 64 = row0 c k / 64 := by omega
  have e1 : (i 1).val / 4096 = chunk c k h := by omega
  refine Fin.ext ?_
  simp only [owner]
  rw [e0, e1]
  exact hm.1

theorem owner_own (c : D) (s : Fin 4) {i : G.Idx} (hi : i ∈ (own c s).cells) : owner c i = c := by
  have hi := Box.mem_cells.mp hi
  have hs := s.isLt
  simp only [own] at hi
  have e1 : (i 1).val / 4096 = c.val % 4 := by omega
  refine Fin.ext ?_
  simp only [owner, maker, e1, beq_self_eq_true, cond_true]

end Cert.Gather

end
-- ==== Proof.KernelIdealProtocol.lean ====
/-
# The exchange: cells, contents, schedule

Every device keeps one 256 × 16384 buffer. It computes its own column chunk of it and gets the rest from its three kinds of
neighbours (`Mesh`). The entry `i` of the finished buffer of device `c` is the entry that `owner c i` computed.

Semaphores. A device's barrier cell receives one unit from each of its four neighbours; the unit from the neighbour towards
which `c` will later send hands `c` the rectangles of that neighbour's buffer that `c` will write. Transfer `j` has a send
semaphore, which gives `c` back the share of the rectangle it read, and a receive semaphore on the target, which hands the target
the rectangle at its final contents.
-/
module

public import proofs.«01_k».proof.Proof.Mesh
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.ValueKit.Geometry
public import Idealize.ShloMosaic.Lib.Tactic

@[expose] public section

noncomputable section

namespace Cert.KernelIdealProof

open Cert.KernelIdeal Cert.KernelIdeal.Gen Cert.Gather

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Buffers and cells -/

abbrev xM : Memref sig .tc .vmem S256x512 .f32 := Memref.whole cc0_stg0_0
abbrev wM : Memref sig .tc .vmem S512x4096 .f32 := Memref.whole cc0_stg1_0
abbrev oM : Memref sig .tc .vmem S256x16384 .f32 := Memref.whole cc0_stg2_0
abbrev gM : Memref sig .tc .vmem S256x16384 .bf16 := Memref.whole cc0_scratch0

/-- The buffer that device `c` gathers into. -/
abbrev gLoc (c : Dev nD) : Loc nD τ sig := (c : Thread nD τ).loc cc0_scratch0

abbrev barS : Sem sig := (SemArray.scalar (sig.barrier 0 rfl) : Sems sig S_).sem

/-- The send (`false`) and receive (`true`) semaphore of a transfer. -/
def dsem (b : Bool) (j : Tr) : DmaSem sig :=
  (⟨3 + 24 * j.1.val + (bif b then 12 else 0) + 4 * j.2.1.val + j.2.2.val, by
    have h1 := j.1.isLt; have h2 := j.2.1.isLt; have h3 := j.2.2.isLt; cases b <;> simp only [cond_true, cond_false] <;> omega⟩ : Fin 123)

def decB (q : ℕ) : Bool := (q - 3) / 12 % 2 == 1
def decK (q : ℕ) : Tr :=
  (⟨(q - 3) / 24 % 5, Nat.mod_lt _ (by decide)⟩, ⟨(q - 3) % 12 / 4, by omega⟩, ⟨(q - 3) % 4, Nat.mod_lt _ (by decide)⟩)

theorem decB_dsem : ∀ (b : Bool) (j : Tr), decB (dsem b j).val = b := by decide +kernel
theorem decK_dsem : ∀ (b : Bool) (j : Tr), decK (dsem b j).val = j := by decide +kernel
theorem dsem_ge (b : Bool) (j : Tr) : 3 ≤ (dsem b j).val := by unfold dsem; simp only; omega

abbrev barCell (c : Dev nD) : GSem nD τ sig := ((c : Thread nD τ), .reg barS)
abbrev sendCell (c : Dev nD) (j : Tr) : GSem nD τ sig := ((c : Thread nD τ), .dma (dsem false j))
abbrev recvCell (c : Dev nD) (j : Tr) : GSem nD τ sig := ((c : Thread nD τ), .dma (dsem true j))

theorem inb0 (k : Fin 5) : ∀ a, (![0, 0] : Fin 2 → ℕ) a + (![rows k, 1024] : Fin 2 → ℕ) a ≤ S256x16384.size a := by
  revert k; decide

/-- What one transfer of kind `k` adds to either of its semaphores. -/
def amt (k : Fin 5) : ℕ :=
  ((gM : Memref sig .tc .vmem S256x16384 .bf16).slice (Rect.unit (s := S256x16384) ![0, 0] ![rows k, 1024] (inb0 k)) (fun _ => rfl)).view.dmaCredit

theorem amt_pos (k : Fin 5) : 0 < amt k := View.dmaCredit_pos _ (by revert k; decide)

/-! ## Contents -/

/-- The inputs as device `c` reads them. -/
def xstg (c : Dev nD) : (cc0_stg0_0 : Ref sig .tc).ty.Contents (Elt F) :=
  (win0_0.blk (0 : Fin 1)).view.read (Elt F) ((s₀ m ρ).mem ((c : Thread nD τ).loc main_arg0))
def wstg (c : Dev nD) : (cc0_stg1_0 : Ref sig .tc).ty.Contents (Elt F) :=
  (win0_1.blk (0 : Fin 1)).view.read (Elt F) ((s₀ m ρ).mem ((c : Thread nD τ).loc main_arg1))

theorem inbW (s : Fin 4) : ∀ a, (![0, 1024 * s.val] : Fin 2 → ℕ) a + S512x1024.size a ≤ S512x4096.size a := by revert s; decide

/-- Slice `s` of a device's own chunk: the exponentials of its block of the product. -/
def eSlice (c : Dev nD) (s : Fin 4) : FVec F S256x1024 .bf16 :=
  k0_pay4 (k0_pay2 (xstg m ρ c))
    ((wM : Memref sig .tc .vmem S512x4096 .f32).view.readAt (Elt F) (Rect.unit (s := S512x4096) ![0, 1024 * s.val] S512x1024.size (inbW s)).toLoadRect (wstg m ρ c))

/-- Where an entry lies in its slice. -/
def sl (i : G.Idx) : Fin 4 := ⟨(i 1).val % 4096 / 1024, by omega⟩
def pos (i : G.Idx) : S256x1024.Idx
  | ⟨0, _⟩ => ⟨(i 0).val, (i 0).isLt⟩
  | ⟨1, _⟩ => ⟨(i 1).val % 1024, Nat.mod_lt _ (by decide)⟩

/-- The finished buffer of device `c`. -/
def Gfin (c : Dev nD) : Buf (Elt F) (gLoc c) := fun i => eSlice m ρ (owner c i) (sl i) (pos i)

omit [FloatOps F] in
/-- A rectangle's cells as a view of the buffer has them. -/
theorem set_box {b : Box} {off size : Fin 2 → ℕ} {inb : ∀ a, off a + size a ≤ S256x16384.size a} (ho : off = ![b.r, b.c]) (hs : size = ![b.nr, b.nc]) :
    ((gM : Memref sig .tc .vmem S256x16384 .bf16).view.slice (Rect.unit (s := S256x16384) off size inb)).set = b.cells := by
  ext i
  rw [ValueKit.mem_set_slice_whole_iff (b := cc0_scratch0) (h := Rect.mem_set_unit), Box.mem_cells]
  subst ho hs
  exact ⟨fun h => ⟨h 0, h 1⟩, fun h a => by match a with | ⟨0, _⟩ => exact h.1 | ⟨1, _⟩ => exact h.2⟩

/-- A store of slice `s` gives its cells their final contents. -/
theorem own_written (c : Dev nD) (s : Fin 4) {off : Fin 2 → ℕ} {inb : ∀ a, off a + S256x1024.size a ≤ S256x16384.size a} (ho : off = ![0, 4096 * (c.val % 4) + 1024 * s.val])
    (f : Buf (Elt F) (gLoc c)) (i : G.Idx) (hi : i ∈ (own c s).cells) :
    ((gM : Memref sig .tc .vmem S256x16384 .bf16).access (Rect.unit (s := S256x16384) off S256x1024.size inb)).write (Elt F) f (eSlice m ρ c s) Finset.univ i
      = Gfin m ρ c i := by
  have hown := hi
  rw [← set_box (b := own c s) (off := off) (size := S256x1024.size) (inb := inb) ho rfl] at hi
  obtain ⟨x, -, rfl⟩ := Finset.mem_map.mp hi
  have h0 := ValueKit.view_emb_slice_whole_unit_val cc0_scratch0 off S256x1024.size inb x 0
  have h1 := ValueKit.view_emb_slice_whole_unit_val cc0_scratch0 off S256x1024.size inb x 1
  rw [View.write_emb_of_mem _ _ (Finset.mem_univ x)]
  subst ho
  have x1 : (x 1).val < 1024 := (x 1).isLt
  have hs := s.isLt
  unfold Gfin
  rw [owner_own c s hown]
  have e1 : sl (((gM : Memref sig .tc .vmem S256x16384 .bf16).access (Rect.unit (s := S256x16384) _ S256x1024.size inb)).emb x) = s := by
    refine Fin.ext ?_
    simp only [sl]
    refine Eq.trans (congrArg (fun n => n % 4096 / 1024) h1) ?_
    simp only [Matrix.cons_val_one, Matrix.cons_val_zero]
    omega
  have e2 : pos (((gM : Memref sig .tc .vmem S256x16384 .bf16).access (Rect.unit (s := S256x16384) _ S256x1024.size inb)).emb x) = x := by
    funext a
    match a with
    | ⟨0, _⟩ => exact Fin.ext (h0.trans (by simp))
    | ⟨1, _⟩ =>
      refine Fin.ext ((congrArg (fun n => n % 1024) h1).trans ?_)
      simp only [Matrix.cons_val_one, Matrix.cons_val_zero]
      show (4096 * (c.val % 4) + 1024 * s.val + (x 1).val) % 1024 = (x 1).val
      omega
  rw [e1, e2]
  rfl

/-- A transfer gives the cells it writes the contents they had at its source: their final contents. -/
theorem land_written (c : Dev nD) (j : Tr) {off size : Fin 2 → ℕ} {inb : ∀ a, off a + size a ≤ S256x16384.size a} (ho : off = ![(src c j).r, (src c j).c]) (hs : size = ![rows j.1, 1024])
    (fd : Buf (Elt F) (gLoc (tgt j.1 c))) (i : G.Idx) (hi : i ∈ (src c j).cells) :
    ((gM : Memref sig .tc .vmem S256x16384 .bf16).view.slice (Rect.unit (s := S256x16384) off size inb)).write (Elt F) fd
        (((gM : Memref sig .tc .vmem S256x16384 .bf16).view.slice (Rect.unit (s := S256x16384) off size inb)).read (Elt F) (Gfin m ρ c)) Finset.univ i
      = Gfin m ρ (tgt j.1 c) i := by
  have hsrc := hi
  rw [← set_box (b := src c j) (inb := inb) ho hs] at hi
  obtain ⟨x, -, rfl⟩ := Finset.mem_map.mp hi
  rw [View.write_emb_of_mem _ _ (Finset.mem_univ x)]
  show Gfin m ρ c _ = _
  unfold Gfin
  rw [owner_src c j hsrc]

/-! ## The schedule -/

/-- Device `c`'s buffer at its final contents, on the cells `X`, with the share `q`. -/
def Pts (c : Dev nD) (X : Finset G.Idx) (q : PosShare TreeShare) : sProp 𝕄 := gLoc c ↦[X]{q} Gfin m ρ c

/-- Some contents, on the cells `X`, whole share. -/
def Raw (c : Dev nD) (X : Finset G.Idx) : sProp 𝕄 := iprop(∃ f : Buf (Elt F) (gLoc c), gLoc c ↦[X]{fullShare} f)

/-- The shares in which a device holds its finished cells: one that stays, one lent to the transfers of each direction. -/
def q0 : PosShare TreeShare := fullShare.left
def qd (d : Fin 3) : PosShare TreeShare := match d with
  | 0 => fullShare.right.left
  | 1 => fullShare.right.right.left
  | 2 => fullShare.right.right.right

instance Pts_storable (c : Dev nD) (X) (q) : BI.Storable (upEmb : UEmb _ 𝕄) (Pts m ρ c X q) := by unfold Pts; infer_instance
omit [FloatOps F] in
instance Raw_storable (c : Dev nD) (X) : BI.Storable (upEmb : UEmb _ 𝕄) (Raw (F := F) c X) := by unfold Raw; infer_instance

/-- What the signal of the device towards which `c` sends its transfers `j` with `leave j.1 = d` hands `c`. -/
def barPay (c : Dev nD) (d : Fin 4) : sProp 𝕄 :=
  bigSep (Finset.univ.filter fun j : Tr => leave j.1 = d) fun j => Raw (F := F) (tgt j.1 c) (src c j).cells
def sendPay (c : Dev nD) (j : Tr) : sProp 𝕄 := Pts m ρ c (src c j).cells (qd (dir j.1))
def recvPay (c : Dev nD) (j : Tr) : sProp 𝕄 := Pts m ρ c (land c j).cells fullShare

omit [FloatOps F] in
instance barPay_storable (c : Dev nD) (d) : BI.Storable (upEmb : UEmb _ 𝕄) (barPay (F := F) c d) := by unfold barPay; infer_instance
instance sendPay_storable (c : Dev nD) (j) : BI.Storable (upEmb : UEmb _ 𝕄) (sendPay m ρ c j) := by unfold sendPay; infer_instance
instance recvPay_storable (c : Dev nD) (j) : BI.Storable (upEmb : UEmb _ 𝕄) (recvPay m ρ c j) := by unfold recvPay; infer_instance

def semDuties (sm : SemLoc sig) : Finset (Fin 4) := match sm with
  | .reg _ => Finset.univ
  | .dma q => {0}
def semAmount (sm : SemLoc sig) : ℕ := match sm with
  | .reg _ => 1
  | .dma q => amt (decK q.val).1
def semPayload (c : Dev nD) (sm : SemLoc sig) (d : Fin 4) : sProp 𝕄 := match sm with
  | .reg _ => barPay c d
  | .dma q => bif decB q.val then recvPay m ρ c (decK q.val) else sendPay m ρ c (decK q.val)

instance semPayload_storable (c : Dev nD) (sm : SemLoc sig) (d : Fin 4) : BI.Storable (upEmb : UEmb _ 𝕄) (semPayload m ρ c sm d) := by
  unfold semPayload
  cases sm with
  | reg _ => dsimp only; infer_instance
  | dma q => dsimp only; cases decB q.val <;> dsimp only [cond_true, cond_false] <;> infer_instance

/-- One round of each cell. -/
def rd : Rounds.Schedule (GSem nD τ sig) (Fin 4) 𝕄 where
  duties g r := if r = 0 then semDuties g.2 else ∅
  unitless _ := False
  amount g _ _ := semAmount g.2
  payload g _ d := semPayload m ρ g.1.1 g.2 d
  amount_pos g _ _ _ := by
    unfold semAmount
    cases g.2 with
    | reg _ => exact Nat.one_pos
    | dma q => exact amt_pos _

instance rd_payload_storable (g : GSem nD τ sig) (r : ℕ) (d : Fin 4) : BI.Storable (upEmb : UEmb _ 𝕄) ((rd m ρ).payload g r d) := by
  show BI.Storable upEmb (semPayload m ρ g.1.1 g.2 d)
  infer_instance

section Sched
variable (c : Dev nD)

theorem duties_bar : (rd m ρ).duties (barCell c) 0 = Finset.univ := rfl
theorem duties_dma (q : DmaSem sig) : (rd m ρ).duties ((c : Thread nD τ), .dma q) 0 = {0} := rfl
theorem duties_later (g : GSem nD τ sig) : ∀ r, 1 ≤ r → (rd m ρ).duties g r = ∅ := fun r hr => if_neg (by omega)
theorem amount_bar (d : Fin 4) : (rd m ρ).amount (barCell c) 0 d = 1 := rfl
theorem amount_dma (b : Bool) (j : Tr) (d : Fin 4) : (rd m ρ).amount ((c : Thread nD τ), .dma (dsem b j)) 0 d = amt j.1 := by
  show amt (decK (dsem b j).val).1 = _
  rw [decK_dsem]
theorem expect_bar : (rd m ρ).expect (barCell c) 0 = 4 := by
  unfold Schedule.expect Schedule.amountOf
  rw [duties_bar, Finset.sum_congr rfl fun d _ => amount_bar m ρ c d, Finset.sum_const, Finset.card_univ, Fintype.card_fin, smul_eq_mul]
theorem expect_dma (b : Bool) (j : Tr) : (rd m ρ).expect ((c : Thread nD τ), .dma (dsem b j)) 0 = amt j.1 := by
  unfold Schedule.expect Schedule.amountOf; rw [duties_dma, Finset.sum_singleton, amount_dma]
theorem payload_bar (d : Fin 4) : (rd m ρ).payload (barCell c) 0 d = barPay c d := rfl
theorem payload_send (j : Tr) (d : Fin 4) : (rd m ρ).payload (sendCell c j) 0 d = sendPay m ρ c j := by
  show (bif decB (dsem false j).val then recvPay m ρ c (decK (dsem false j).val) else sendPay m ρ c (decK (dsem false j).val)) = _
  rw [decB_dsem, decK_dsem]; rfl
theorem payload_recv (j : Tr) (d : Fin 4) : (rd m ρ).payload (recvCell c j) 0 d = recvPay m ρ c j := by
  show (bif decB (dsem true j).val then recvPay m ρ c (decK (dsem true j).val) else sendPay m ρ c (decK (dsem true j).val)) = _
  rw [decB_dsem, decK_dsem]; rfl
theorem rest_bar : bigSep ((rd m ρ).duties (barCell c) 0 \ ∅) (fun d => (rd m ρ).payload (barCell c) 0 d) = bigSep Finset.univ fun d => barPay (F := F) c d := by
  rw [Finset.sdiff_empty, duties_bar]; rfl
theorem rest_send (j : Tr) : bigSep ((rd m ρ).duties (sendCell c j) 0 \ ∅) (fun d => (rd m ρ).payload (sendCell c j) 0 d) = sendPay m ρ c j := by
  rw [Finset.sdiff_empty, duties_dma, bigSep_singleton, payload_send]
theorem rest_recv (j : Tr) : bigSep ((rd m ρ).duties (recvCell c j) 0 \ ∅) (fun d => (rd m ρ).payload (recvCell c j) 0 d) = recvPay m ρ c j := by
  rw [Finset.sdiff_empty, duties_dma, bigSep_singleton, payload_recv]

end Sched

/-! ## What a device owes; levels -/

/-- With `t` transfers issued a device still owes its targets the rest. -/
def owed (c : Dev nD) (t : ℕ) : CellTallies nD τ sig Unit :=
  ∑ j ∈ Finset.univ.filter (fun j : Tr => t ≤ ord j), tallyAt (recvCell (tgt j.1 c) j) () (amt j.1)

theorem owed_step (c : Dev nD) (j : Tr) : owed c (ord j) = owed c (ord j + 1) + tallyAt (recvCell (tgt j.1 c) j) () (amt j.1) := by
  unfold owed
  rw [add_comm, ← Finset.sum_insert (f := fun j : Tr => tallyAt (recvCell (tgt j.1 c) j) () (amt j.1)) (a := j) (by simp)]
  refine Finset.sum_congr ?_ fun _ _ => rfl
  ext j'
  simp only [Finset.mem_filter, Finset.mem_univ, true_and, Finset.mem_insert]
  constructor
  · intro h
    by_cases e : j' = j
    · exact .inl e
    · have : ord j' ≠ ord j := fun h => e (ord_inj j' j h)
      right; omega
  · rintro (rfl | h) <;> omega

theorem owed_done (c : Dev nD) : owed c 60 = 0 := by
  unfold owed
  refine Finset.sum_eq_zero fun j hj => ?_
  have := (Finset.mem_filter.mp hj).2
  have := ord_lt j
  omega

theorem owed_pos {c : Dev nD} {t : ℕ} {g : GSem nD τ sig} {u : Unit} (h : 0 < owed c t g u) : ∃ j : Tr, t ≤ ord j ∧ g = recvCell (tgt j.1 c) j := by
  by_contra hn
  refine absurd h (Nat.not_lt.mpr (Nat.le_of_eq ?_))
  unfold owed
  rw [Finset.sum_apply, Finsupp.finset_sum_apply]
  refine Finset.sum_eq_zero fun j hj => ?_
  rw [tallyAt_apply, if_neg fun h' => hn ⟨j, (Finset.mem_filter.mp hj).2, h'.1⟩]

/-- At launch: all sixty transfers, and one unit to each of the four neighbours' barrier cells. -/
def sigT (c : Dev nD) (k : Fin 4) : CellTallies nD τ sig Unit := tallyAt (barCell (peer k c)) () 1
def O₀ (c : Dev nD) : CellTallies nD τ sig Unit := owed c 0 + sigT c 3 + sigT c 2 + sigT c 1 + sigT c 0

theorem sigT_pos {c : Dev nD} {k : Fin 4} {g : GSem nD τ sig} {u : Unit} (h : 0 < sigT c k g u) : g = barCell (peer k c) := by
  by_contra hn
  unfold sigT at h
  rw [tallyAt_apply, if_neg fun h' => hn h'.1] at h
  exact Nat.lt_irrefl 0 h

theorem O₀_pos {c : Dev nD} {g : GSem nD τ sig} {u : Unit} (h : 0 < O₀ c g u) :
    (∃ k : Fin 4, g = barCell (peer k c)) ∨ ∃ j : Tr, g = recvCell (tgt j.1 c) j := by
  unfold O₀ at h
  simp only [Pi.add_apply, Finsupp.add_apply] at h
  have : 0 < owed c 0 g u ∨ 0 < sigT c 3 g u ∨ 0 < sigT c 2 g u ∨ 0 < sigT c 1 g u ∨ 0 < sigT c 0 g u := by omega
  rcases this with h | h | h | h | h
  · obtain ⟨j, -, h⟩ := owed_pos h; exact .inr ⟨j, h⟩
  all_goals exact .inl ⟨_, sigT_pos h⟩

def L (g : GSem nD τ sig) : Finset Unit := if g.1.2 = .tc then {()} else ∅
/-- Staging and send cells lowest, then the barrier cells, then the receive cells in the order of issue. -/
def lv (g : GSem nD τ sig) (_ : Unit) : ℕ := match g.2 with
  | .reg _ => 1
  | .dma q => if 3 ≤ q.val ∧ decB q.val = true then ord (decK q.val) + 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (j : Tr) (u : Unit) : lv (recvCell c j) u = ord j + 2 := by
  show (if 3 ≤ (dsem true j).val ∧ decB (dsem true j).val = true then ord (decK (dsem true j).val) + 2 else 0) = _
  rw [if_pos ⟨dsem_ge _ _, decB_dsem _ _⟩, decK_dsem]

omit [FloatOps F] in
theorem mayWait_stage (c : Dev nD) (q : DmaSem sig) (hq : q.val < 3) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl⟩ | ⟨j, rfl⟩ <;> exact Finset.mem_singleton_self _)
      (fun p hp => by rw [Finset.mem_singleton.mp hp]; exact Nat.le_of_eq (if_neg fun h => by omega))
      (fun g u hg => by
        rcases O₀_pos hg with ⟨k, rfl⟩ | ⟨j, rfl⟩
        · exact Nat.one_pos
        · rw [lv_recv]; omega)
  · rw [MayWait_zero]; iintro -; iempintro

omit [FloatOps F] in
theorem mayWait_bar (c : Dev nD) : (levAts L lv : sProp 𝕄) ⊢ MayWait (c : Thread nD τ) (.reg barS) () (owed c 0) :=
  MayOwe.of_cut (L := L) (lev := lv) 1 (fun p hp => by rw [Finset.mem_singleton.mp hp, L_tc]; exact Finset.mem_singleton_self _)
    (fun g u hg => by obtain ⟨j, -, rfl⟩ := owed_pos hg; exact Finset.mem_singleton_self _)
    (fun p hp => by rw [Finset.mem_singleton.mp hp]; exact Nat.le_refl 1)
    (fun g u hg => by obtain ⟨j, -, rfl⟩ := owed_pos hg; rw [lv_recv]; omega)

omit [FloatOps F] in
/-- A device may await a transfer of which it has issued its own. -/
theorem mayWait_recv (c : Dev nD) (j : Tr) {t : ℕ} (ht : ord j < t) : (levAts L lv : sProp 𝕄) ⊢ MayWait (c : Thread nD τ) (.dma (dsem true j)) () (owed c t) :=
  MayOwe.of_cut (L := L) (lev := lv) (ord j + 2) (fun p hp => by rw [Finset.mem_singleton.mp hp, L_tc]; exact Finset.mem_singleton_self _)
    (fun g u hg => by obtain ⟨j, -, rfl⟩ := owed_pos hg; exact Finset.mem_singleton_self _)
    (fun p hp => by rw [Finset.mem_singleton.mp hp]; exact Nat.le_of_eq (lv_recv c j ()))
    (fun g u hg => by obtain ⟨j', h, rfl⟩ := owed_pos hg; rw [lv_recv]; omega)

end Cert.KernelIdealProof

end
-- ==== Proof.KernelIdealSteps.lean ====
/-
# One step of the body at a time

What a device holds at each point of the body, by four counters: how many of its own slices it has computed (`w`), how many
transfers it has issued (`t`), how many it has received (`u`), and, at the end, how many of its own it has seen leave (`v`).
Each lemma moves one counter by one.
-/
module

public import proofs.«01_k».proof.Proof.KernelIdealProtocol

@[expose] public section

noncomputable section

namespace Cert.KernelIdealProof

open Cert.KernelIdeal Cert.KernelIdeal.Gen Cert.Gather

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The program `p` on device `c` may run and end with `Q`. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## Products over what lies past a counter -/

omit [FloatOps F] in
theorem from_step {I : Type} [Fintype I] [DecidableEq I] (o : I → ℕ) (inj : ∀ a b, o a = o b → a = b) (Φ : I → sProp 𝕄) (j : I) : bigSep (Finset.univ.filter fun a => o j ≤ o a) Φ = iprop(Φ j ∗ bigSep (Finset.univ.filter fun a => o j + 1 ≤ o a) Φ) := by
  have e : (Finset.univ.filter fun a => o j ≤ o a) = insert j (Finset.univ.filter fun a => o j + 1 ≤ o a) := by
    ext a
    simp only [Finset.mem_insert, Finset.mem_filter, Finset.mem_univ, true_and]
    constructor
    · intro h
      by_cases e : o a = o j
      · exact .inl (inj a j e)
      · right; omega
    · rintro (rfl | h) <;> omega
  rw [e]
  exact bigSep_insert (by simp)

omit [FloatOps F] in
theorem upto_step {I : Type} [Fintype I] [DecidableEq I] (o : I → ℕ) (inj : ∀ a b, o a = o b → a = b) (Φ : I → sProp 𝕄) (j : I) : bigSep (Finset.univ.filter fun a => o a < o j + 1) Φ = iprop(Φ j ∗ bigSep (Finset.univ.filter fun a => o a < o j) Φ) := by
  have e : (Finset.univ.filter fun a => o a < o j + 1) = insert j (Finset.univ.filter fun a => o a < o j) := by
    ext a
    simp only [Finset.mem_insert, Finset.mem_filter, Finset.mem_univ, true_and]
    constructor
    · intro h
      by_cases e : o a = o j
      · exact .inl (inj a j e)
      · right; omega
    · rintro (rfl | h) <;> omega
  rw [e]
  exact bigSep_insert (by simp)

omit [FloatOps F] in
theorem assoc_eq (A B C : sProp 𝕄) : iprop(A ∗ B ∗ C) = iprop((A ∗ B) ∗ C) := by
  have h1 : iprop(A ∗ B ∗ C) ⊢ iprop((A ∗ B) ∗ C) := by
    iintro ⟨HA, HB, HC⟩
    isplitl [HA HB]
    · isplitl [HA] <;> iassumption
    iexact HC
  have h2 : iprop((A ∗ B) ∗ C) ⊢ iprop(A ∗ B ∗ C) := by
    iintro ⟨⟨HA, HB⟩, HC⟩
    isplitl [HA]; · iexact HA
    isplitl [HB] <;> iassumption
  exact BI.equiv_iff.mp ⟨h1, h2⟩

/-! ## The finished cells a device holds -/

theorem Pts_union (c : Dev nD) {X Y : Finset G.Idx} (q : PosShare TreeShare) (h : Disjoint X Y) :
    Pts m ρ c (X ∪ Y) q = iprop(Pts m ρ c X q ∗ Pts m ρ c Y q) := by
  have := pointsTo_union (ℓ := gLoc c) (q := q) (f := Gfin m ρ c) (Ix := Unit) (Name := ℕ) (U := UU) (Lvl := ℕ) h
  exact BI.equiv_iff.mp ⟨this.1, this.2⟩

theorem Pts_within (c : Dev nD) {X Y : Finset G.Idx} (q : PosShare TreeShare) (h : X ⊆ Y) :
    Pts m ρ c Y q = iprop(Pts m ρ c X q ∗ Pts m ρ c (Y \ X) q) := by
  have := pointsTo_split_subset (ℓ := gLoc c) (q := q) (f := Gfin m ρ c) (Ix := Unit) (Name := ℕ) (U := UU) (Lvl := ℕ) h
  exact BI.equiv_iff.mp ⟨this.1, this.2⟩

theorem Pts_share (c : Dev nD) (X : Finset G.Idx) (q : PosShare TreeShare) :
    Pts m ρ c X q = iprop(Pts m ρ c X q.left ∗ Pts m ρ c X q.right) := by
  have := pointsTo_share (ℓ := gLoc c) (I := X) (f := Gfin m ρ c) (Ix := Unit) (Name := ℕ) (U := UU) (Lvl := ℕ) (PosShare.mem_left_op_right q)
  exact BI.equiv_iff.mp ⟨this.1, this.2⟩

/-- The whole share is the one that stays and the three that are lent. -/
theorem Pts_full (c : Dev nD) (X : Finset G.Idx) :
    Pts m ρ c X fullShare = iprop(Pts m ρ c X q0 ∗ bigSep Finset.univ fun d : Fin 3 => Pts m ρ c X (qd d)) := by
  rw [bigSep_univ_eq_bigSepL [0, 1, 2] (by decide) (by decide), Pts_share m ρ c X fullShare, Pts_share m ρ c X fullShare.right, Pts_share m ρ c X fullShare.right.right]
  rfl

/-- Device `c` holds the finished cells `A`, apart from the shares of `Fl d` lent in direction `d`. -/
def Held (c : Dev nD) (A : Finset G.Idx) (Fl : Fin 3 → Finset G.Idx) : sProp 𝕄 :=
  iprop(Pts m ρ c A q0 ∗ bigSep Finset.univ fun d : Fin 3 => Pts m ρ c (A \ Fl d) (qd d))

theorem Held_acquire (c : Dev nD) {A X : Finset G.Idx} {Fl : Fin 3 → Finset G.Idx} (hX : Disjoint X A) (hF : ∀ d, Fl d ⊆ A) :
    iprop(Pts m ρ c X fullShare ∗ Held m ρ c A Fl) ⊢ Held m ρ c (A ∪ X) Fl := by
  unfold Held
  rw [Pts_full, Pts_union m ρ c q0 hX.symm]
  iintro ⟨⟨HX, HXs⟩, HA, HAs⟩
  isplitl [HX HA]
  · isplitl [HA] <;> iassumption
  · have h : (bigSep Finset.univ fun d : Fin 3 => Pts m ρ c ((A ∪ X) \ Fl d) (qd d))
        = iprop((bigSep Finset.univ fun d : Fin 3 => Pts m ρ c (A \ Fl d) (qd d)) ∗ bigSep Finset.univ fun d : Fin 3 => Pts m ρ c X (qd d)) := by
      rw [← bigSep_sep']
      refine bigSep_congr fun d _ => ?_
      rw [← Pts_union m ρ c _ (Disjoint.mono_left Finset.sdiff_subset hX.symm), Finset.union_sdiff_distrib,
        Finset.sdiff_eq_self_of_disjoint (hX.mono_right (hF d))]
    rw [h]
    isplitl [HAs] <;> iassumption

theorem Held_lend (c : Dev nD) {A X : Finset G.Idx} {Fl Fl' : Fin 3 → Finset G.Idx} (d : Fin 3) (hX : X ⊆ A) (hd : Disjoint X (Fl d))
    (hFl : ∀ e, Fl' e = if e = d then Fl e ∪ X else Fl e) :
    Held m ρ c A Fl ⊢ iprop(Pts m ρ c X (qd d) ∗ Held m ρ c A Fl') := by
  unfold Held
  rw [bigSep_univ_at (fun e : Fin 3 => Pts m ρ c (A \ Fl e) (qd e)) d, bigSep_univ_at (fun e : Fin 3 => Pts m ρ c (A \ Fl' e) (qd e)) d]
  rw [show (bigSep (Finset.univ.erase d) fun e : Fin 3 => Pts m ρ c (A \ Fl' e) (qd e)) = bigSep (Finset.univ.erase d) fun e : Fin 3 => Pts m ρ c (A \ Fl e) (qd e) from
    bigSep_congr fun e he => by rw [hFl e, if_neg (Finset.ne_of_mem_erase he)]]
  rw [Pts_within m ρ c (X := X) (Y := A \ Fl d) (qd d) (Finset.subset_sdiff.mpr ⟨hX, hd⟩), hFl d, if_pos rfl, sdiff_sdiff_left, Finset.sup_eq_union]
  iintro ⟨H0, ⟨HX, Hd⟩, Hr⟩
  isplitl [HX]; · iexact HX
  isplitl [H0]; · iexact H0
  isplitl [Hd] <;> iassumption

theorem Held_back (c : Dev nD) {A X : Finset G.Idx} {Fl Fl' : Fin 3 → Finset G.Idx} (d : Fin 3) (hA : ∀ e, Fl e ⊆ A) (hX : X ⊆ Fl d)
    (hFl : ∀ e, Fl' e = if e = d then Fl e \ X else Fl e) :
    iprop(Pts m ρ c X (qd d) ∗ Held m ρ c A Fl) ⊢ Held m ρ c A Fl' := by
  unfold Held
  rw [bigSep_univ_at (fun e : Fin 3 => Pts m ρ c (A \ Fl e) (qd e)) d, bigSep_univ_at (fun e : Fin 3 => Pts m ρ c (A \ Fl' e) (qd e)) d]
  rw [show (bigSep (Finset.univ.erase d) fun e : Fin 3 => Pts m ρ c (A \ Fl' e) (qd e)) = bigSep (Finset.univ.erase d) fun e : Fin 3 => Pts m ρ c (A \ Fl e) (qd e) from
    bigSep_congr fun e he => by rw [hFl e, if_neg (Finset.ne_of_mem_erase he)]]
  rw [hFl d, if_pos rfl, show A \ (Fl d \ X) = X ∪ A \ Fl d from by
    ext i
    simp only [Finset.mem_sdiff, Finset.mem_union]
    have := @hX i; have := @hA d i
    tauto, Pts_union m ρ c (qd d) (Finset.disjoint_left.mpr fun i hi hn => (Finset.mem_sdiff.mp hn).2 (hX hi))]
  iintro ⟨HX, H0, Hd, Hr⟩
  isplitl [H0]; · iexact H0
  isplitl [HX Hd]
  · isplitl [HX] <;> iassumption
  iexact Hr

theorem Held_all (c : Dev nD) {A : Finset G.Idx} {Fl : Fin 3 → Finset G.Idx} (h : ∀ d, Fl d = ∅) : Held m ρ c A Fl = Pts m ρ c A fullShare := by
  rw [Pts_full]; unfold Held
  rw [show (bigSep Finset.univ fun d : Fin 3 => Pts m ρ c (A \ Fl d) (qd d)) = bigSep Finset.univ fun d : Fin 3 => Pts m ρ c A (qd d) from
    bigSep_congr fun d _ => by rw [h d, Finset.sdiff_empty]]

theorem Held_empty (c : Dev nD) (Fl : Fin 3 → Finset G.Idx) : iprop(emp) ⊢ Held m ρ c ∅ Fl := by
  have h : ∀ q, Pts m ρ c ∅ q = iprop(emp) := fun q => pointsTo_empty
  have e : (bigSep Finset.univ fun d : Fin 3 => Pts m ρ c (∅ \ Fl d) (qd d)) = bigSep Finset.univ fun d : Fin 3 => iprop(emp) :=
    bigSep_congr fun d _ => by rw [Finset.empty_sdiff, h]
  unfold Held
  rw [h, e.trans (bigSep_emp_const Finset.univ)]
  iintro -
  isplitl <;> iempintro

omit [FloatOps F] in
theorem Raw_open (c : Dev nD) (X : Finset G.Idx) : Raw (F := F) c X = iprop(∃ f : Buf (Elt F) (gLoc c), gLoc c ↦[X]{fullShare} f) := rfl

/-! ## The invariants -/

/-- A device's cells by name: its barrier cell, and its send and receive cells. -/
abbrev CI : Type := Option (Bool × Tr)
def csem : CI → SemLoc sig
  | none => .reg barS
  | some (b, j) => .dma (dsem b j)
abbrev kcell (ck : Dev nD × CI) : GSem nD τ sig := ((ck.1 : Thread nD τ), csem ck.2)

variable (N : Dev nD × CI → ℕ)

def records : sProp 𝕄 :=
  iprop((bigSep Finset.univ fun ck : Dev nD × CI => cellInv ER (rd m ρ) (N ck) (kcell ck)) ∗ bigSep Finset.univ fun ck : Dev nD × CI => reached ER (kcell ck) 0)

instance records_persistent : Persistent (records m ρ N) := by unfold records; infer_instance

theorem inv_at (ck : Dev nD × CI) : records m ρ N ⊢ cellInv ER (rd m ρ) (N ck) (kcell ck) := by
  unfold records; iintro ⟨#HI, -⟩
  ihave H := (show (bigSep Finset.univ fun ck : Dev nD × CI => (cellInv ER (rd m ρ) (N ck) (kcell ck) : sProp 𝕄)) ⊢ cellInv ER (rd m ρ) (N ck) (kcell ck) from
    bigSep_elim (Finset.mem_univ ck)) $$ HI
  iexact H
theorem reached_at (ck : Dev nD × CI) : records m ρ N ⊢ reached ER (kcell ck) 0 := by
  unfold records; iintro ⟨-, #HI⟩
  ihave H := (show (bigSep Finset.univ fun ck : Dev nD × CI => (reached ER (kcell ck) 0 : sProp 𝕄)) ⊢ reached ER (kcell ck) 0 from
    bigSep_elim (Finset.mem_univ ck)) $$ HI
  iexact H

/-- What every device knows throughout. -/
def Ctx : sProp 𝕄 := iprop(records m ρ N ∗ levAts L lv)
instance Ctx_persistent : Persistent (Ctx m ρ N) := by unfold Ctx; infer_instance

/-! ## The state while slices are computed, transfers issued and received -/

/-- The two inputs, read only. -/
def Ins (c : Dev nD) : sProp 𝕄 :=
  iprop(((c : Thread nD τ).loc cc0_stg0_0 ↦{fullShare} xstg m ρ c) ∗ ((c : Thread nD τ).loc cc0_stg1_0 ↦{fullShare} wstg m ρ c))

/-- What the issue of transfer `j` takes. -/
def toIssue (c : Dev nD) (j : Tr) : sProp 𝕄 :=
  iprop(dutyTok ER (sendCell c j) 0 0 ∗ dutyTok ER (recvCell (tgt j.1 c) j) 0 0 ∗ Raw (F := F) (tgt j.1 c) (src c j).cells)
/-- What its receipt takes. -/
def toRecv (c : Dev nD) (j : Tr) : sProp 𝕄 := iprop(atPos ER (recvCell c j) 0 ∅ 0 ∗ cred (tallyAt (recvCell c j) () (amt j.1)))

def St1 (c : Dev nD) (w t u : ℕ) : sProp 𝕄 :=
  iprop(Ctx m ρ N ∗ Ins m ρ c ∗ semVal (barCell c) 0
    ∗ ⌜∀ d, Fly c ord 0 t d ⊆ K c w u⌝ ∗ Held m ρ c (K c w u) (Fly c ord 0 t)
    ∗ (bigSep (Finset.univ.filter fun s : Fin 4 => w ≤ s.val) fun s => Raw (F := F) c (own c s).cells)
    ∗ (bigSep (Finset.univ.filter fun j : Tr => t ≤ ord j) fun j => toIssue c j)
    ∗ (bigSep (Finset.univ.filter fun j : Tr => ord j < t) fun j => cred (tallyAt (sendCell c j) () (amt j.1)))
    ∗ (bigSep Finset.univ fun j : Tr => atPos ER (sendCell c j) 0 ∅ 0)
    ∗ (bigSep (Finset.univ.filter fun j : Tr => u ≤ ordR j) fun j => toRecv c j)
    ∗ (bigSep (Finset.univ.filter fun j : Tr => ordR j < u) fun j => semVal (recvCell c j) 0)
    ∗ ∃ W : Waits sig Unit, owes (c : Thread nD τ) (owed c t) W)

/-! ## The results -/

/-- Entry `p` of column chunk `a`. -/
def inChunk (a : Fin 4) (p : S256x4096.Idx) : G.Idx
  | ⟨0, _⟩ => ⟨(p 0).val, (p 0).isLt⟩
  | ⟨1, _⟩ => ⟨4096 * a.val + (p 1).val, by
      have h : (p 1).val < 4096 := (p 1).isLt
      have := a.isLt
      show _ < 16384
      omega⟩

/-- Column chunk `a` of the finished buffer of device `c`. -/
def gChunk (c : Dev nD) (a : Fin 4) : Vec F S256x4096 .bf16 := fun p => Gfin m ρ c (inChunk a p)

theorem read_chunk (c : Dev nD) (a : Fin 4) {off : Fin 2 → ℕ} {inb : ∀ a, off a + S256x4096.size a ≤ S256x16384.size a} (ho : off = ![0, 4096 * a.val]) :
    (gM : Memref sig .tc .vmem S256x16384 .bf16).view.readAt (Elt F) (Rect.unit (s := S256x16384) off S256x4096.size inb).toLoadRect (Gfin m ρ c)
      = gChunk m ρ c a := by
  funext p
  subst ho
  refine congrArg (Gfin m ρ c) ?_
  funext b
  match b with
  | ⟨0, _⟩ => exact Fin.ext ((ValueKit.view_emb_slice_whole_unit_val cc0_scratch0 ![0, 4096 * a.val] S256x4096.size inb p 0).trans (by simp [inChunk]))
  | ⟨1, _⟩ => exact Fin.ext ((ValueKit.view_emb_slice_whole_unit_val cc0_scratch0 ![0, 4096 * a.val] S256x4096.size inb p 1).trans (by simp [inChunk]))

/-- The chunk `e` before its own along `z`. -/
abbrev behind (c : Dev nD) (e : ℕ) : Fin 4 := ⟨(c.val + 4 - e) % 4, Nat.mod_lt _ (by decide)⟩

/-- The row sums, as device `c` adds them up. -/
def den (c : Dev nD) : FVec F S256x1 .f32 :=
  k0_pay12 (k0_pay11 (k0_pay9 (k0_pay7 (gChunk m ρ c (behind c 0))) (k0_pay8 (gChunk m ρ c (behind c 1)))) (k0_pay10 (gChunk m ρ c (behind c 2)))) (gChunk m ρ c (behind c 3))

/-- Which chunk a column lies in, and where. -/
def ofCol (i : G.Idx) : Fin 4 := ⟨(i 1).val / 4096, by have h : (i 1).val < 16384 := (i 1).isLt; omega⟩
def atCol (i : G.Idx) : S256x4096.Idx
  | ⟨0, _⟩ => ⟨(i 0).val, (i 0).isLt⟩
  | ⟨1, _⟩ => ⟨(i 1).val % 4096, Nat.mod_lt _ (by decide)⟩

/-- The result on device `c`. -/
def outAt (c : Dev nD) : (cc0_stg2_0 : Ref sig .tc).ty.Contents (Elt F) := fun i => k0_pay14 (den m ρ c) (gChunk m ρ c (ofCol i)) (atCol i)

/-- The first `n` chunks of the result are there. -/
def Out (c : Dev nD) (n : ℕ) : sProp 𝕄 :=
  iprop(∃ f : Buf (Elt F) ((c : Thread nD τ).loc cc0_stg2_0), ⌜∀ i : G.Idx, (i 1).val < 4096 * n → f i = outAt m ρ c i⌝ ∗ ((c : Thread nD τ).loc cc0_stg2_0 ↦{fullShare} f))

theorem out_written (c : Dev nD) (a : Fin 4) {off : Fin 2 → ℕ} {inb : ∀ a, off a + S256x4096.size a ≤ S256x16384.size a} (ho : off = ![0, 4096 * a.val])
    (f : (cc0_stg2_0 : Ref sig .tc).ty.Contents (Elt F)) (hf : ∀ i : G.Idx, (i 1).val < 4096 * a.val → f i = outAt m ρ c i) (i : G.Idx) (hi : (i 1).val < 4096 * (a.val + 1)) :
    ((oM : Memref sig .tc .vmem S256x16384 .f32).access (Rect.unit (s := S256x16384) off S256x4096.size inb)).write (Elt F) f (k0_pay14 (den m ρ c) (gChunk m ρ c a)) Finset.univ i
      = outAt m ρ c i := by
  subst ho
  by_cases h : (i 1).val < 4096 * a.val
  · rw [View.write_of_not_mem]
    · exact hf i h
    · intro hm
      obtain ⟨x, -, rfl⟩ := Finset.mem_map.mp hm
      have h1 := ValueKit.view_emb_slice_whole_unit_val cc0_stg2_0 ![0, 4096 * a.val] S256x4096.size inb x 1
      have h2 : (((oM : Memref sig .tc .vmem S256x16384 .f32).access (Rect.unit (s := S256x16384) ![0, 4096 * a.val] S256x4096.size inb)).emb x 1).val = 4096 * a.val + (x 1).val := h1
      omega
  · have hx : i = ((oM : Memref sig .tc .vmem S256x16384 .f32).access (Rect.unit (s := S256x16384) ![0, 4096 * a.val] S256x4096.size inb)).emb (atCol i) := by
      funext b
      match b with
      | ⟨0, _⟩ =>
        refine Fin.ext ((ValueKit.view_emb_slice_whole_unit_val cc0_stg2_0 ![0, 4096 * a.val] S256x4096.size inb (atCol i) 0).trans ?_).symm
        simp only [Matrix.cons_val_zero]
        exact Nat.zero_add _
      | ⟨1, _⟩ =>
        refine Fin.ext ((ValueKit.view_emb_slice_whole_unit_val cc0_stg2_0 ![0, 4096 * a.val] S256x4096.size inb (atCol i) 1).trans ?_).symm
        simp only [Matrix.cons_val_one, Matrix.cons_val_zero]
        show 4096 * a.val + (i 1).val % 4096 = (i 1).val
        omega
    have ha : ofCol i = a := Fin.ext (by show (i 1).val / 4096 = a.val; omega)
    unfold outAt
    rw [ha]
    conv_lhs => rw [hx]
    exact View.write_emb_of_mem _ _ (Finset.mem_univ _)

/-! ## The state while the device's own transfers leave -/

def toBack (c : Dev nD) (j : Tr) : sProp 𝕄 := iprop(atPos ER (sendCell c j) 0 ∅ 0 ∗ cred (tallyAt (sendCell c j) () (amt j.1)))

def St2 (c : Dev nD) (v : ℕ) : sProp 𝕄 :=
  iprop(Ctx m ρ N ∗ Ins m ρ c ∗ semVal (barCell c) 0
    ∗ Held m ρ c Finset.univ (Fly c ordW v 60)
    ∗ (bigSep (Finset.univ.filter fun j : Tr => v ≤ ordW j) fun j => toBack c j)
    ∗ (bigSep (Finset.univ.filter fun j : Tr => ordW j < v) fun j => semVal (sendCell c j) 0)
    ∗ (bigSep Finset.univ fun j : Tr => semVal (recvCell c j) 0)
    ∗ ∃ W : Waits sig Unit, owes (c : Thread nD τ) (0 : CellTallies nD τ sig Unit) W)

/-! ## The state while the neighbours are signalled -/

/-- The tokens that the issue of a transfer takes. -/
def issueToks (c : Dev nD) (j : Tr) : sProp 𝕄 := iprop(dutyTok ER (sendCell c j) 0 0 ∗ dutyTok ER (recvCell (tgt j.1 c) j) 0 0)
/-- What signal `d` takes. -/
def toSignal (c : Dev nD) (d : Fin 4) : sProp 𝕄 := iprop(dutyTok ER (barCell (peer d c)) 0 d ∗ barPay (F := F) (peer d c) d)

/-- With `k` signals made, still owing `O`. -/
def St0 (c : Dev nD) (O : CellTallies nD τ sig Unit) (k : ℕ) : sProp 𝕄 :=
  iprop(Ctx m ρ N ∗ Ins m ρ c
    ∗ (atPos ER (barCell c) 0 ∅ 0 ∗ cred (tallyAt (barCell c) () 4))
    ∗ (bigSep Finset.univ fun s : Fin 4 => Raw (F := F) c (own c s).cells)
    ∗ (bigSep (Finset.univ.filter fun d : Fin 4 => k ≤ d.val) fun d => toSignal c d)
    ∗ (bigSep Finset.univ fun j : Tr => issueToks c j)
    ∗ (bigSep Finset.univ fun j : Tr => atPos ER (sendCell c j) 0 ∅ 0)
    ∗ (bigSep Finset.univ fun j : Tr => toRecv c j)
    ∗ ∃ W : Waits sig Unit, owes (c : Thread nD τ) O W)

omit [FloatOps F] in
/-- The four signals hand a device every rectangle it will write on its neighbours. -/
theorem bar_all (c : Dev nD) : (bigSep Finset.univ fun d => barPay (F := F) c d) ⊢ bigSep Finset.univ fun j : Tr => Raw (F := F) (tgt j.1 c) (src c j).cells := by
  unfold barPay
  have e : (Finset.univ.biUnion fun d : Fin 4 => Finset.univ.filter fun j : Tr => leave j.1 = d) = Finset.univ := by
    ext j; simp
  have h := bigSep_biUnion (Finset.univ : Finset (Fin 4)) (fun d => Finset.univ.filter fun j : Tr => leave j.1 = d)
    (Φ := fun j => Raw (F := F) (tgt j.1 c) (src c j).cells)
  rw [e] at h
  exact h

variable {m ρ N}

section Steps

variable {c : Dev nD} {w t u : ℕ} {R : sProp (MT nD τ sig Unit (Elt F) ℕ UU ℕ)} {α : Type} {Q : α → sProp (MT nD τ sig Unit (Elt F) ℕ UU ℕ)}

/-- A load of `x`. -/
theorem load_x {r : LoadRect S256x512} {hl : (xM : Memref sig .tc .vmem S256x512 .f32).view.LoadsAt r} {k : (r.shape.Idx → Elt F .f32) → Prog (TpuEff nD τ sig (Elt F) Λ₀ .tc) α}
    (h : iprop(St1 m ρ N c w t u ∗ R) ⊢ WP c (k ((xM : Memref sig .tc .vmem S256x512 .f32).view.readAt (Elt F) r (xstg m ρ c))) Q) :
    iprop(St1 m ρ N c w t u ∗ R) ⊢ WP c (.op (.load xM r hl) k) Q := by
  unfold St1 Ins at h ⊢
  iintro ⟨⟨HC, ⟨Hx, Hw⟩, Hs⟩, HR⟩
  iapply (wp_load 𝒱₀ (c : Thread nD τ) none Set.univ (m := xM) (Finset.subset_univ _)) $$ [Hx]; · iexact Hx
  iintro Hx
  iapply h
  isplitl [HC Hx Hw Hs]
  · isplitl [HC]; · iexact HC
    isplitl [Hx Hw]
    · isplitl [Hx] <;> iassumption
    iexact Hs
  iexact HR

/-- A load of columns of `W`. -/
theorem load_w {r : LoadRect S512x4096} {hl : (wM : Memref sig .tc .vmem S512x4096 .f32).view.LoadsAt r} {k : (r.shape.Idx → Elt F .f32) → Prog (TpuEff nD τ sig (Elt F) Λ₀ .tc) α}
    (h : iprop(St1 m ρ N c w t u ∗ R) ⊢ WP c (k ((wM : Memref sig .tc .vmem S512x4096 .f32).view.readAt (Elt F) r (wstg m ρ c))) Q) :
    iprop(St1 m ρ N c w t u ∗ R) ⊢ WP c (.op (.load wM r hl) k) Q := by
  unfold St1 Ins at h ⊢
  iintro ⟨⟨HC, ⟨Hx, Hw⟩, Hs⟩, HR⟩
  iapply (wp_load 𝒱₀ (c : Thread nD τ) none Set.univ (m := wM) (Finset.subset_univ _)) $$ [Hw]; · iexact Hw
  iintro Hw
  iapply h
  isplitl [HC Hx Hw Hs]
  · isplitl [HC]; · iexact HC
    isplitl [Hx Hw]
    · isplitl [Hx] <;> iassumption
    iexact Hs
  iexact HR

omit [FloatOps F] in
/-- A rectangle's cells as a load of the buffer reads them. -/
theorem setOn_box {b : Box} {off size : Fin 2 → ℕ} {inb : ∀ a, off a + size a ≤ S256x16384.size a} (ho : off = ![b.r, b.c]) (hs : size = ![b.nr, b.nc]) :
    (gM : Memref sig .tc .vmem S256x16384 .bf16).view.setOn (Rect.unit (s := S256x16384) off size inb).toLoadRect.set = b.cells := by
  exact (View.set_slice _ _).symm.trans (set_box (inb := inb) ho hs)

/-- A load of a slice not yet computed: some contents. -/
theorem load_own (s : Fin 4) (hw : s.val = w) {offF : Dev nD → Fin 2 → ℕ} {inb : ∀ a, offF c a + S256x1024.size a ≤ S256x16384.size a}
    {hl : (gM : Memref sig .tc .vmem S256x16384 .bf16).view.LoadsAt (Rect.unit (s := S256x16384) (offF c) S256x1024.size inb).toLoadRect}
    {k : Vec F S256x1024 .bf16 → Prog (TpuEff nD τ sig (Elt F) Λ₀ .tc) α}
    (ho : ∀ c : Dev nD, offF c = ![0, 4096 * (c.val % 4) + 1024 * s.val])
    (h : ∀ v, iprop(St1 m ρ N c w t u ∗ R) ⊢ WP c (k v) Q) :
    iprop(St1 m ρ N c w t u ∗ R) ⊢ WP c (.op (.load gM (Rect.unit (s := S256x16384) (offF c) S256x1024.size inb).toLoadRect hl) k) Q := by
  subst hw
  unfold St1 at h ⊢
  rw [from_step (fun s : Fin 4 => s.val) (fun a b e => Fin.ext e) (fun s => Raw (F := F) c (own c s).cells) s] at h ⊢
  iintro ⟨⟨HC, HI, HB, HF, HH, ⟨Ho, Hos⟩, Hr⟩, HR⟩
  ihave Ho := (Entails.of_eq (Raw_open c _)) $$ Ho
  icases Ho with ⟨%f, Ho⟩
  iapply (wp_load 𝒱₀ (c : Thread nD τ) none Set.univ (m := gM) (S := (own c s).cells) (q := fullShare) (f := f)
    (Finset.subset_of_eq (setOn_box (b := own c s) (size := S256x1024.size) (inb := inb) (ho c) rfl))) $$ [Ho]; · iexact Ho
  iintro Ho
  iapply h _
  isplitr [HR]
  · isplitl [HC]; · iexact HC
    isplitl [HI]; · iexact HI
    isplitl [HB]; · iexact HB
    isplitl [HF]; · iexact HF
    isplitl [HH]; · iexact HH
    isplitr [Hr]
    · isplitl [Ho]; · iapply (Entails.of_eq (Raw_open c _).symm); iexists f; iexact Ho
      iexact Hos
    iexact Hr
  iexact HR

/-- A store of a computed slice. -/
theorem store_own (s : Fin 4) (hw : s.val = w) {offF : Dev nD → Fin 2 → ℕ} {inb : ∀ a, offF c a + S256x1024.size a ≤ S256x16384.size a}
    {x : FVec F S256x1024 .bf16} {hx hm} {k : PUnit → Prog (TpuEff nD τ sig (Elt F) Λ₀ .tc) α}
    (ho : ∀ c : Dev nD, offF c = ![0, 4096 * (c.val % 4) + 1024 * s.val]) (hv : x = eSlice m ρ c s)
    (h : iprop(St1 m ρ N c (w + 1) t u ∗ R) ⊢ WP c (k ⟨⟩) Q) :
    iprop(St1 m ρ N c w t u ∗ R) ⊢ WP c (.op (.store gM (Rect.unit (s := S256x16384) (offF c) S256x1024.size inb) x Finset.univ hx hm) k) Q := by
  subst hw hv
  unfold St1 at h ⊢
  rw [from_step (fun s : Fin 4 => s.val) (fun a b e => Fin.ext e) (fun s => Raw (F := F) c (own c s).cells) s]
  iintro ⟨⟨HC, HI, HB, %HF, HH, ⟨Ho, Hos⟩, Hr⟩, HR⟩
  ihave Ho := (Entails.of_eq (Raw_open c _)) $$ Ho
  icases Ho with ⟨%f, Ho⟩
  have hset := set_box (b := own c s) (off := offF c) (size := S256x1024.size) (inb := inb) (ho c) rfl
  iapply (wp_store 𝒱₀ (c : Thread nD τ) none Set.univ (m := gM) (r := Rect.unit (s := S256x16384) (offF c) S256x1024.size inb) (S := (own c s).cells) (f := f) (Finset.subset_of_eq hset)) $$ [Ho]; · iexact Ho
  iintro Ho
  iapply h
  ihave Ho := (Entails.of_eq (pointsTo_congr (ℓ := gLoc c) (own_written m ρ c s (inb := inb) (ho c) f))) $$ Ho
  isplitr [HR]
  · isplitl [HC]; · iexact HC
    isplitl [HI]; · iexact HI
    isplitl [HB]; · iexact HB
    isplitr
    · ipureintro; exact fun d => (HF d).trans (K_mono (Nat.le_succ _) le_rfl)
    isplitl [HH Ho]
    · rw [K_own]
      iapply (Held_acquire m ρ c (own_disjoint_K c s u) HF)
      isplitl [Ho]; · unfold Pts; iexact Ho
      iexact HH
    isplitl [Hos]; · iexact Hos
    iexact Hr
  iexact HR

/-- The issue of a transfer. -/
theorem send_step (j : Tr) (ht : ord j = t) (hr : ready j w u = true)
    {nF : Dev nD → Dev nD} (hn : ∀ c, nF c = tgt j.1 c)
    {offF : Dev nD → Fin 2 → ℕ} {size : Fin 2 → ℕ} {inb inb' : ∀ a, offF c a + size a ≤ S256x16384.size a} {al al'}
    (ho : ∀ c, offF c = ![(src c j).r, (src c j).c]) (hs : size = ![rows j.1, 1024])
    {sS sR : DmaSem sig} (hS : sS = dsem false j) (hR : sR = dsem true j)
    {hsc hsrc hdst hsem} {k : PUnit → Prog (TpuEff nD τ sig (Elt F) Λ₀ .tc) α}
    (h : iprop(St1 m ρ N c w (t + 1) u ∗ R) ⊢ WP c (k ⟨⟩) Q) :
    iprop(St1 m ρ N c w t u ∗ R) ⊢ WP c (.op (.enqueueDma ((gM : Memref sig .tc .vmem S256x16384 .bf16).slice (Rect.unit (s := S256x16384) (offF c) size inb) al)
      (.remote (Dev.tc (nF c) : Thread nD τ) ((gM : Memref sig .tc .vmem S256x16384 .bf16).slice (Rect.unit (s := S256x16384) (offF c) size inb') al') (.dma sS) hsc) (.dma sR) hsrc hdst hsem) k) Q := by
  subst ht hS hR
  have hn' := hn c
  generalize nF c = n at hn' hsc hsrc hdst hsem
  subst hn'
  have hset := set_box (b := src c j) (inb := inb) (ho c) hs
  unfold St1 at h ⊢
  rw [from_step ord ord_inj (fun j => toIssue (F := F) c j) j]
  rw [upto_step ord ord_inj (fun j => (cred (tallyAt (sendCell c j) () (amt j.1)) : sProp 𝕄)) j] at h
  iintro ⟨⟨#HC, HI, HB, %HF, HH, Ho, ⟨Hj, Hjs⟩, Hcr, Hat, Hrc, Hv, ⟨%W, HO⟩⟩, HR⟩
  unfold toIssue Ctx at *
  icases HC with ⟨HC, Hlev⟩
  icases Hj with ⟨HtS, HtV, Hraw⟩
  ihave Hraw := (Entails.of_eq (Raw_open _ _)) $$ Hraw
  icases Hraw with ⟨%fd, Hraw⟩
  ihave HH := (Held_lend m ρ c (Fl' := Fly c ord 0 (ord j + 1)) (dir j.1) (src_K hr) (src_disjoint_Fly c j) (Fly_issue c j)) $$ HH
  icases HH with ⟨Hsrc, HH⟩
  ihave #HIs := (inv_at m ρ N (c, some (false, j))) $$ HC
  ihave #HIr := (inv_at m ρ N (tgt j.1 c, some (true, j))) $$ HC
  ihave #HRs := (reached_at m ρ N (c, some (false, j))) $$ HC
  ihave #HRr := (reached_at m ρ N (tgt j.1 c, some (true, j))) $$ HC
  iapply (Rounds.wp_send_pointsTo 𝒱₀ ER (rd m ρ) (c : Thread nD τ) none (κ₁ := N (c, some (false, j))) (κ₂ := N (tgt j.1 c, some (true, j)))
    (r₁ := 0) (r₂ := 0) (d₁ := 0) (d₂ := 0) (fs := Gfin m ρ c) (q := qd (dir j.1)) (fd := fd)
    (by rw [duties_dma]; exact Finset.mem_singleton_self _) (by rw [duties_dma]; exact Finset.mem_singleton_self _)
    () () (amt j.1) (by subst hs; rfl) (amount_dma m ρ c false j 0) (amount_dma m ρ (tgt j.1 c) true j 0) (owed c (ord j + 1)) (owed_step c j) (W := W)
    (by rw [payload_send]; exact Entails.of_eq (congrArg (fun X => Pts m ρ c X (qd (dir j.1))) hset))
    (by
      rw [payload_recv]; unfold recvPay Pts
      rw [land_tgt]
      refine Entails.of_eq ?_
      refine (congrArg (fun X => (gLoc (tgt j.1 c) ↦[X]{fullShare} _ : sProp 𝕄)) hset).trans ?_
      exact pointsTo_congr (land_written m ρ c j (inb := inb') (ho c) hs fd))) $$ [HO HtS HtV Hsrc Hraw]
  · isplitr; · iexact HIs
    isplitr; · iexact HIr
    isplitl [Hsrc]; · iapply (Entails.of_eq (congrArg (fun X => (gLoc c ↦[X]{qd (dir j.1)} Gfin m ρ c : sProp 𝕄)) hset).symm); unfold Pts; iexact Hsrc
    isplitl [Hraw]
    · iapply (Entails.of_eq (congrArg (fun X => (gLoc (tgt j.1 c) ↦[X]{fullShare} fd : sProp 𝕄)) hset).symm); iexact Hraw
    isplitl [HO]; · iexact HO
    isplitl [HtS]; · iexact HtS
    isplitr; · iexact HRs
    isplitl [HtV]; · iexact HtV
    iexact HRr
  iintro ⟨Hc, HO⟩
  iapply h
  isplitr [HR]
  · isplitr
    · isplitr; · iexact HC
      iexact Hlev
    isplitl [HI]; · iexact HI
    isplitl [HB]; · iexact HB
    isplitr
    · ipureintro
      intro d
      rw [Fly_issue]
      split
      · exact Finset.union_subset (HF d) (src_K hr)
      · exact HF d
    isplitl [HH]; · iexact HH
    isplitl [Ho]; · iexact Ho
    isplitl [Hjs]; · iexact Hjs
    isplitl [Hcr Hc]
    · isplitl [Hc] <;> iassumption
    isplitl [Hat]; · iexact Hat
    isplitl [Hrc]; · iexact Hrc
    isplitl [Hv]; · iexact Hv
    iexists W; iexact HO
  iexact HR

/-- The receipt of a transfer. -/
theorem recv_step (j : Tr) (hu : ordR j = u) (ht : ord j < t)
    {offF : Dev nD → Fin 2 → ℕ} {size : Fin 2 → ℕ} {inb : ∀ a, offF c a + size a ≤ S256x16384.size a} {al}
    (hs : size = ![rows j.1, 1024]) {sR : DmaSem sig} (hR : sR = dsem true j)
    {sp' : Space} {s' : Shape} {e' : EltTy} {a : Memref sig .tc sp' s' e'} {hsrc hdst} {k : PUnit → Prog (TpuEff nD τ sig (Elt F) Λ₀ .tc) α}
    (h : iprop(St1 m ρ N c w t (u + 1) ∗ R) ⊢ WP c (k ⟨⟩) Q) :
    iprop(St1 m ρ N c w t u ∗ R) ⊢ WP c (.op (.waitDma2 sR a
      ((gM : Memref sig .tc .vmem S256x16384 .bf16).slice (Rect.unit (s := S256x16384) (offF c) size inb) al) hsrc hdst) k) Q := by
  subst hu hR hs
  unfold St1 at h ⊢
  rw [from_step ordR ordR_inj (fun j => toRecv (F := F) c j) j]
  rw [upto_step ordR ordR_inj (fun j => (semVal (recvCell c j) 0 : sProp 𝕄)) j, K_land] at h
  iintro ⟨⟨#HC, HI, HB, %HF, HH, Ho, Hjs, Hcr, Hat, ⟨Hj, Hrc⟩, Hv, ⟨%W, HO⟩⟩, HR⟩
  unfold toRecv Ctx at *
  icases HC with ⟨HC, Hlev⟩
  icases Hj with ⟨HatV, HcV⟩
  ihave #HIr := (inv_at m ρ N (c, some (true, j))) $$ HC
  iapply (Rounds.wp_wait_rest_token 𝒱₀ ER (rd m ρ) (c : Thread nD τ) none (κ := N (c, some (true, j)))
      (wpE_waitDma2_eq 𝒱₀ (c : Thread nD τ) none Set.univ) (Set.mem_univ _) () (O := owed c t) (W := W) (R := 0) (m := 0) (T := ∅)
      (by rw [Nat.zero_add]; exact (expect_dma m ρ c true j).symm)) $$ [HcV HO HatV]
  · isplitr; · iexact HIr
    isplitl [HcV]; · iexact HcV
    isplitl [HO]; · iexact HO
    isplitr; · iapply (mayWait_recv c j ht); iexact Hlev
    iexact HatV
  iintro ⟨HO, HatV, -, Hpay⟩
  ihave Hpay := (Entails.of_eq (rest_recv m ρ c j)) $$ Hpay
  unfold recvPay
  imod (Rounds.cell_close ER (rd m ρ) (Set.mem_univ (N (c, some (true, j)))) (fun h => h) (R := 0 + 1) (duties_later m ρ (recvCell c j))) $$ [HatV] with HzV
  · isplitr; · iexact HIr
    iexact HatV
  iapply h
  isplitr [HR]
  · isplitr
    · isplitr; · iexact HC
      iexact Hlev
    isplitl [HI]; · iexact HI
    isplitl [HB]; · iexact HB
    isplitr
    · ipureintro
      exact fun d => (HF d).trans Finset.subset_union_left
    isplitl [HH Hpay]
    · iapply (Held_acquire m ρ c (land_disjoint_K c j w) HF)
      isplitl [Hpay]; · iexact Hpay
      iexact HH
    isplitl [Ho]; · iexact Ho
    isplitl [Hjs]; · iexact Hjs
    isplitl [Hcr]; · iexact Hcr
    isplitl [Hat]; · iexact Hat
    isplitl [Hrc]; · iexact Hrc
    isplitl [Hv HzV]
    · isplitl [HzV] <;> iassumption
    iexists _; iexact HO
  iexact HR

/-- A load of a whole chunk whose cells are all there. -/
theorem load_chunk (e : ℕ) (hK : (whole c e).cells ⊆ K c w u) {offF : Dev nD → Fin 2 → ℕ} {inb : ∀ a, offF c a + S256x4096.size a ≤ S256x16384.size a}
    {hl : (gM : Memref sig .tc .vmem S256x16384 .bf16).view.LoadsAt (Rect.unit (s := S256x16384) (offF c) S256x4096.size inb).toLoadRect}
    {k : Vec F S256x4096 .bf16 → Prog (TpuEff nD τ sig (Elt F) Λ₀ .tc) α}
    (ho : ∀ c : Dev nD, offF c = ![0, 4096 * ((c.val + 4 - e) % 4)])
    (h : iprop(St1 m ρ N c w t u ∗ R) ⊢ WP c (k (gChunk m ρ c ⟨(c.val + 4 - e) % 4, Nat.mod_lt _ (by decide)⟩)) Q) :
    iprop(St1 m ρ N c w t u ∗ R) ⊢ WP c (.op (.load gM (Rect.unit (s := S256x16384) (offF c) S256x4096.size inb).toLoadRect hl) k) Q := by
  rw [← read_chunk m ρ c ⟨(c.val + 4 - e) % 4, Nat.mod_lt _ (by decide)⟩ (inb := inb) (ho c)] at h
  unfold St1 Held at h ⊢
  iintro ⟨⟨HC, HI, HB, HF, ⟨H0, Hd⟩, Hr⟩, HR⟩
  unfold Pts at *
  iapply (wp_load 𝒱₀ (c : Thread nD τ) none Set.univ (m := gM) (S := K c w u) (q := q0) (f := Gfin m ρ c)
    ((Finset.subset_of_eq (setOn_box (b := whole c e) (size := S256x4096.size) (inb := inb) (ho c) rfl)).trans hK)) $$ [H0]; · iexact H0
  iintro H0
  iapply h
  isplitr [HR]
  · isplitl [HC]; · iexact HC
    isplitl [HI]; · iexact HI
    isplitl [HB]; · iexact HB
    isplitl [HF]; · iexact HF
    isplitl [H0 Hd]
    · isplitl [H0] <;> iassumption
    iexact Hr
  iexact HR

/-- One of the device's own transfers has left. -/
theorem back_step (j : Tr) {v : ℕ} (hv : ordW j = v)
    {offF : Dev nD → Fin 2 → ℕ} {size : Fin 2 → ℕ} {inb : ∀ a, offF c a + size a ≤ S256x16384.size a} {al}
    (hs : size = ![rows j.1, 1024]) {sS : DmaSem sig} (hS : sS = dsem false j)
    {sp' : Space} {s' : Shape} {e' : EltTy} {a : Memref sig .tc sp' s' e'} {hsrc hdst} {k : PUnit → Prog (TpuEff nD τ sig (Elt F) Λ₀ .tc) α}
    (h : iprop(St2 m ρ N c (v + 1) ∗ R) ⊢ WP c (k ⟨⟩) Q) :
    iprop(St2 m ρ N c v ∗ R) ⊢ WP c (.op (.waitDma2 sS a
      ((gM : Memref sig .tc .vmem S256x16384 .bf16).slice (Rect.unit (s := S256x16384) (offF c) size inb) al) hsrc hdst) k) Q := by
  subst hv hS hs
  unfold St2 at h ⊢
  rw [from_step ordW ordW_inj (fun j => toBack (F := F) c j) j]
  rw [upto_step ordW ordW_inj (fun j => (semVal (sendCell c j) 0 : sProp 𝕄)) j] at h
  iintro ⟨⟨#HC, HI, HB, HH, ⟨Hj, Hjs⟩, Hv, Hr, ⟨%W, HO⟩⟩, HR⟩
  unfold toBack Ctx at *
  icases HC with ⟨HC, Hlev⟩
  icases Hj with ⟨HatS, HcS⟩
  ihave #HIs := (inv_at m ρ N (c, some (false, j))) $$ HC
  iapply (Rounds.wp_wait_rest_token 𝒱₀ ER (rd m ρ) (c : Thread nD τ) none (κ := N (c, some (false, j)))
      (wpE_waitDma2_eq 𝒱₀ (c : Thread nD τ) none Set.univ) (Set.mem_univ _) () (O := 0) (W := W) (R := 0) (m := 0) (T := ∅)
      (by rw [Nat.zero_add]; exact (expect_dma m ρ c false j).symm)) $$ [HcS HO HatS]
  · isplitr; · iexact HIs
    isplitl [HcS]; · iexact HcS
    isplitl [HO]; · iexact HO
    isplitr; · rw [MayWait_zero]; iempintro
    iexact HatS
  iintro ⟨HO, HatS, -, Hpay⟩
  ihave Hpay := (Entails.of_eq (rest_send m ρ c j)) $$ Hpay
  unfold sendPay
  imod (Rounds.cell_close ER (rd m ρ) (Set.mem_univ (N (c, some (false, j)))) (fun h => h) (R := 0 + 1) (duties_later m ρ (sendCell c j))) $$ [HatS] with HzS
  · isplitr; · iexact HIs
    iexact HatS
  iapply h
  isplitr [HR]
  · isplitr
    · isplitr; · iexact HC
      iexact Hlev
    isplitl [HI]; · iexact HI
    isplitl [HB]; · iexact HB
    isplitl [HH Hpay]
    · iapply (Held_back m ρ c (dir j.1) (fun _ => Finset.subset_univ _) (src_sub_Fly c j) (Fly_back c j))
      isplitl [Hpay]; · iexact Hpay
      iexact HH
    isplitl [Hjs]; · iexact Hjs
    isplitl [Hv HzS]
    · isplitl [HzS] <;> iassumption
    isplitl [Hr]; · iexact Hr
    iexists _; iexact HO
  iexact HR

/-- All issued and received: what is left is to wait until the device's own transfers have left. -/
theorem turn : St1 m ρ N c 4 60 60 ⊢ St2 m ρ N c 0 := by
  unfold St1 St2
  iintro ⟨HC, HI, HB, -, HH, -, -, Hcr, Hat, -, Hv, HO⟩
  isplitl [HC]; · iexact HC
  isplitl [HI]; · iexact HI
  isplitl [HB]; · iexact HB
  isplitl [HH]
  · rw [K_univ, show Fly c ord 0 60 = Fly c ordW 0 60 from funext fun d => Fly_turn c d]
    iexact HH
  isplitl [Hcr Hat]
  · rw [show (Finset.univ.filter fun j : Tr => ord j < 60) = Finset.univ from Finset.filter_true_of_mem fun j _ => ord_lt j,
      show (Finset.univ.filter fun j : Tr => 0 ≤ ordW j) = Finset.univ from Finset.filter_true_of_mem fun j _ => Nat.zero_le _]
    unfold toBack
    rw [bigSep_sep']
    isplitl [Hat] <;> iassumption
  isplitr
  · rw [show (Finset.univ.filter fun j : Tr => ordW j < 0) = ∅ from Finset.filter_false_of_mem fun j _ => Nat.not_lt_zero _]
    iapply (Entails.of_eq (bigSep_empty (M := 𝕄)).symm)
    iempintro
  isplitl [Hv]
  · rw [show (Finset.univ.filter fun j : Tr => ordR j < 60) = Finset.univ from Finset.filter_true_of_mem fun j _ => ordR_lt j]
    iexact Hv
  rw [owed_done]
  iexact HO

/-! ### The results -/

/-- A load of chunk `a` of the finished buffer. -/
theorem load_fin (a : Fin 4) {v : ℕ} {off : Fin 2 → ℕ} {inb : ∀ a, off a + S256x4096.size a ≤ S256x16384.size a}
    {hl : (gM : Memref sig .tc .vmem S256x16384 .bf16).view.LoadsAt (Rect.unit (s := S256x16384) off S256x4096.size inb).toLoadRect}
    {k : Vec F S256x4096 .bf16 → Prog (TpuEff nD τ sig (Elt F) Λ₀ .tc) α}
    (ho : off = ![0, 4096 * a.val])
    (h : iprop(St2 m ρ N c v ∗ R) ⊢ WP c (k (gChunk m ρ c a)) Q) :
    iprop(St2 m ρ N c v ∗ R) ⊢ WP c (.op (.load gM (Rect.unit (s := S256x16384) off S256x4096.size inb).toLoadRect hl) k) Q := by
  rw [← read_chunk m ρ c a (inb := inb) ho] at h
  unfold St2 Held at h ⊢
  iintro ⟨⟨HC, HI, HB, ⟨H0, Hd⟩, Hr⟩, HR⟩
  unfold Pts at *
  iapply (wp_load 𝒱₀ (c : Thread nD τ) none Set.univ (m := gM) (S := Finset.univ) (q := q0) (f := Gfin m ρ c) (Finset.subset_univ _)) $$ [H0]; · iexact H0
  iintro H0
  iapply h
  isplitr [HR]
  · isplitl [HC]; · iexact HC
    isplitl [HI]; · iexact HI
    isplitl [HB]; · iexact HB
    isplitl [H0 Hd]
    · isplitl [H0] <;> iassumption
    iexact Hr
  iexact HR

/-- A load of the result's buffer whose value is not used. -/
theorem load_out {P : sProp (MT nD τ sig Unit (Elt F) ℕ UU ℕ)} {n : ℕ} {r : LoadRect S256x16384} {hl : (oM : Memref sig .tc .vmem S256x16384 .f32).view.LoadsAt r} {k : (r.shape.Idx → Elt F .f32) → Prog (TpuEff nD τ sig (Elt F) Λ₀ .tc) α}
    (h : ∀ x, iprop(P ∗ Out m ρ c n) ⊢ WP c (k x) Q) :
    iprop(P ∗ Out m ρ c n) ⊢ WP c (.op (.load oM r hl) k) Q := by
  unfold Out at h ⊢
  iintro ⟨HP, ⟨%f, %hf, Ho⟩⟩
  iapply (wp_load 𝒱₀ (c : Thread nD τ) none Set.univ (m := oM) (Finset.subset_univ _)) $$ [Ho]; · iexact Ho
  iintro Ho
  iapply h _
  isplitl [HP]; · iexact HP
  iexists f
  isplitr; · ipureintro; exact hf
  iexact Ho

/-- A store of chunk `a` of the result. -/
theorem store_out (a : Fin 4) {P : sProp (MT nD τ sig Unit (Elt F) ℕ UU ℕ)} {n : ℕ} (ha : a.val = n) {off : Fin 2 → ℕ} {inb : ∀ a, off a + S256x4096.size a ≤ S256x16384.size a}
    {x : FVec F S256x4096 .f32} {hx hm} {k : PUnit → Prog (TpuEff nD τ sig (Elt F) Λ₀ .tc) α}
    (ho : off = ![0, 4096 * a.val]) (hv : x = k0_pay14 (den m ρ c) (gChunk m ρ c a))
    (h : iprop(P ∗ Out m ρ c (n + 1)) ⊢ WP c (k ⟨⟩) Q) :
    iprop(P ∗ Out m ρ c n) ⊢ WP c (.op (.store oM (Rect.unit (s := S256x16384) off S256x4096.size inb) x Finset.univ hx hm) k) Q := by
  subst ha hv
  unfold Out at h ⊢
  iintro ⟨HP, ⟨%f, %hf, Ho⟩⟩
  iapply (wp_store 𝒱₀ (c : Thread nD τ) none Set.univ (m := oM) (r := Rect.unit (s := S256x16384) off S256x4096.size inb) (S := Finset.univ) (f := f) (Finset.subset_univ _)) $$ [Ho]; · iexact Ho
  iintro Ho
  iapply h
  isplitl [HP]; · iexact HP
  iexists (((oM : Memref sig .tc .vmem S256x16384 .f32).access (Rect.unit (s := S256x16384) off S256x4096.size inb)).write (Elt F) f (k0_pay14 (den m ρ c) (gChunk m ρ c a)) Finset.univ)
  isplitr
  · ipureintro; exact out_written m ρ c a ho f hf
  iexact Ho

/-! ### The barrier -/

/-- The device learns which it is. -/
theorem device_step {P : sProp (MT nD τ sig Unit (Elt F) ℕ UU ℕ)} {k : Dev nD → Prog (TpuEff nD τ sig (Elt F) Λ₀ .tc) α} (h : P ⊢ WP c (k c) Q) :
    P ⊢ WP c (.op .deviceId k) Q := by
  unfold WP at *; rw [wp_deviceId]; exact h

/-- A signal to a neighbour. -/
theorem signal_step (d : Fin 4) {n : ℕ} (hd : d.val = n) {nF : Dev nD → Dev nD} (hn : ∀ c, nF c = peer d c) {sem : Sem sig} (hs : sem = barS)
    {O : CellTallies nD τ sig Unit} {k' : ℕ} (hk' : k' = 1) {k : PUnit → Prog (TpuEff nD τ sig (Elt F) Λ₀ .tc) α}
    (h : iprop(St0 m ρ N c O (n + 1) ∗ R) ⊢ WP c (k ⟨⟩) Q) :
    iprop(St0 m ρ N c (O + sigT c d) n ∗ R) ⊢ WP c (.op (.semSignal (nF c, .tc) sem k') k) Q := by
  subst hd hs hk'
  rw [hn c]
  unfold St0 at h ⊢
  rw [from_step (fun d : Fin 4 => d.val) (fun a b e => Fin.ext e) (fun d => toSignal (F := F) c d) d]
  iintro ⟨⟨#HC, HI, HB, Ho, ⟨Hd, Hds⟩, Ht, Hat, Hr, ⟨%W, HO⟩⟩, HR⟩
  unfold toSignal Ctx at *
  icases HC with ⟨HC, Hlev⟩
  icases Hd with ⟨HtB, Hp⟩
  ihave #HIb := (inv_at m ρ N (peer d c, none)) $$ HC
  ihave #HRb := (reached_at m ρ N (peer d c, none)) $$ HC
  iapply (Rounds.wp_signal 𝒱₀ ER (rd m ρ) (c : Thread nD τ) none (dst := (peer d c : Thread nD τ)) (κ := N (peer d c, none))
      (d := d) (by rw [duties_bar]; exact Finset.mem_univ _) (amount_bar m ρ (peer d c) d) () O rfl (W := W))
    $$ [HO HtB Hp]
  · isplitr; · iexact HIb
    isplitl [HO]; · iexact HO
    isplitl [HtB]; · iexact HtB
    isplitl [Hp]; · rw [payload_bar]; iexact Hp
    iexact HRb
  iintro HO
  iapply h
  isplitr [HR]
  · isplitr
    · isplitr; · iexact HC
      iexact Hlev
    isplitl [HI]; · iexact HI
    isplitl [HB]; · iexact HB
    isplitl [Ho]; · iexact Ho
    isplitl [Hds]; · iexact Hds
    isplitl [Ht]; · iexact Ht
    isplitl [Hat]; · iexact Hat
    isplitl [Hr]; · iexact Hr
    iexists W; iexact HO
  iexact HR

/-- The wait for the four neighbours. -/
theorem barrier_step {sem : Sem sig} (hs : sem = barS) {n : ℕ} (hn : n = 4) {k : PUnit → Prog (TpuEff nD τ sig (Elt F) Λ₀ .tc) α}
    (h : iprop(St1 m ρ N c 0 0 0 ∗ R) ⊢ WP c (k ⟨⟩) Q) :
    iprop(St0 m ρ N c (owed c 0) 4 ∗ R) ⊢ WP c (.op (.semWait sem n) k) Q := by
  subst hs hn
  unfold St0
  iintro ⟨⟨#HC, HI, ⟨HatB, HcB⟩, Ho, -, Ht, Hat, Hr, ⟨%W, HO⟩⟩, HR⟩
  unfold Ctx
  icases HC with ⟨HC, Hlev⟩
  ihave #HIb := (inv_at m ρ N (c, none)) $$ HC
  iapply (Rounds.wp_wait_rest_token 𝒱₀ ER (rd m ρ) (c : Thread nD τ) none (κ := N (c, none))
      (wpE_semWait_eq 𝒱₀ (c : Thread nD τ) none Set.univ) (Set.mem_univ _) () (O := owed c 0) (W := W) (R := 0) (m := 0) (T := ∅)
      (by rw [Nat.zero_add]; exact (expect_bar m ρ c).symm)) $$ [HcB HO HatB]
  · isplitr; · iexact HIb
    isplitl [HcB]; · iexact HcB
    isplitl [HO]; · iexact HO
    isplitr; · iapply (mayWait_bar c); iexact Hlev
    iexact HatB
  iintro ⟨HO, HatB, -, Hpay⟩
  ihave Hpay := (Entails.of_eq (rest_bar m ρ c)) $$ Hpay
  ihave Hpay := (bar_all c) $$ Hpay
  imod (Rounds.cell_close ER (rd m ρ) (Set.mem_univ (N (c, none))) (fun h => h) (R := 0 + 1) (duties_later m ρ (barCell c))) $$ [HatB] with HzB
  · isplitr; · iexact HIb
    iexact HatB
  iapply h
  unfold St1 Ctx
  isplitr [HR]
  · isplitr
    · isplitr; · iexact HC
      iexact Hlev
    isplitl [HI]; · iexact HI
    isplitl [HzB]; · iexact HzB
    isplitr
    · ipureintro; intro d; rw [Fly_zero]; exact Finset.empty_subset _
    isplitr
    · rw [K_zero]; iapply (Held_empty m ρ c _); iempintro
    isplitl [Ho]
    · rw [show (Finset.univ.filter fun s : Fin 4 => 0 ≤ s.val) = Finset.univ from Finset.filter_true_of_mem fun j _ => Nat.zero_le _]
      iexact Ho
    isplitl [Ht Hpay]
    · rw [show (Finset.univ.filter fun j : Tr => 0 ≤ ord j) = Finset.univ from Finset.filter_true_of_mem fun j _ => Nat.zero_le _]
      rw [show (bigSep Finset.univ fun j : Tr => toIssue (F := F) c j) = iprop((bigSep Finset.univ fun j : Tr => issueToks (F := F) c j) ∗ bigSep Finset.univ fun j : Tr => Raw (F := F) (tgt j.1 c) (src c j).cells) from by
        rw [← bigSep_sep']
        refine bigSep_congr fun j _ => ?_
        unfold toIssue issueToks
        exact assoc_eq _ _ _]
      isplitl [Ht] <;> iassumption
    isplitr
    · rw [show (Finset.univ.filter fun j : Tr => ord j < 0) = ∅ from Finset.filter_false_of_mem fun j _ => Nat.not_lt_zero _]
      iapply (Entails.of_eq (bigSep_empty (M := 𝕄)).symm)
      iempintro
    isplitl [Hat]; · iexact Hat
    isplitl [Hr]
    · rw [show (Finset.univ.filter fun j : Tr => 0 ≤ ordR j) = Finset.univ from Finset.filter_true_of_mem fun j _ => Nat.zero_le _]
      iexact Hr
    isplitr
    · rw [show (Finset.univ.filter fun j : Tr => ordR j < 0) = ∅ from Finset.filter_false_of_mem fun j _ => Nat.not_lt_zero _]
      iapply (Entails.of_eq (bigSep_empty (M := 𝕄)).symm)
      iempintro
    iexists _; iexact HO
  iexact HR

/-! ### Composition -/

theorem ret_step {P : sProp (MT nD τ sig Unit (Elt F) ℕ UU ℕ)} {a : α} (h : P ⊢ Q a) : P ⊢ WP c (.ret a) Q := by
  unfold WP; rw [wp_ret]; exact h.trans fupd_intro

/-- One part of the body, then the rest. -/
theorem seq {β : Type} {P P' : sProp (MT nD τ sig Unit (Elt F) ℕ UU ℕ)} {p : Prog (TpuEff nD τ sig (Elt F) Λ₀ .tc) β} {k : β → Prog (TpuEff nD τ sig (Elt F) Λ₀ .tc) α}
    (h : ∀ Q' : β → sProp (MT nD τ sig Unit (Elt F) ℕ UU ℕ), (∀ r, P' ⊢ Q' r) → P ⊢ WP c p Q') (hk : ∀ r, P' ⊢ WP c (k r) Q) : P ⊢ WP c (p >>= k) Q := by
  unfold WP at *; rw [wp_bind]; exact h _ hk

end Steps

end Cert.KernelIdealProof

end
-- ==== Proof.KernelIdealBody.lean ====
/-
# The body

The body of the kernel, run one effect after another from the state before the signals to the state after the last store. The
counters of `St1` and `St2` say which transfer comes next (`issue`, `await`, `leaves`), so each effect is an instance of one lemma.
-/
module

public import proofs.«01_k».proof.Proof.KernelIdealSteps

@[expose] public section

noncomputable section

namespace Cert.KernelIdealProof

open Cert.KernelIdeal Cert.KernelIdeal.Gen Cert.Gather

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable {m : (ℓ : Loc nD τ sig) → Buf (Elt F) ℓ} {ρ : Dev nD → PrngReg} {N : Dev nD × CI → ℕ}

/-! ## Which transfer comes next -/

/-- The transfer whose place in the order of the closing waits is `v`. -/
def leaves (v : ℕ) : Tr :=
  (⟨v / 12 % 5, Nat.mod_lt _ (by decide)⟩, ⟨v % 12 / 4, by omega⟩, ⟨v % 4, Nat.mod_lt _ (by decide)⟩)

/-- The transfer a device issues next after `t`. -/
def issue (t : ℕ) : Tr := leaves (
  [0, 1, 2, 3, 4, 12, 24, 5, 13, 25, 6, 14, 26, 7, 15, 27, 8, 16, 28, 48,
   36, 9, 17, 29, 49, 37, 10, 18, 30, 50, 38, 11, 19, 31, 51, 39, 20, 32, 52, 40,
   21, 33, 53, 41, 22, 34, 54, 42, 23, 35, 55, 43, 56, 44, 57, 45, 58, 46, 59, 47].getD t 0)

/-- The transfer a device awaits next after `u`. -/
def await (u : ℕ) : Tr := leaves (
  [0, 1, 2, 3, 4, 12, 24, 5, 13, 25, 6, 14, 26, 7, 15, 27, 8, 16, 28, 9,
   17, 29, 10, 18, 30, 11, 19, 31, 20, 32, 21, 33, 22, 34, 23, 35, 36, 48, 37, 49,
   38, 50, 39, 51, 40, 52, 41, 53, 42, 54, 43, 55, 44, 56, 45, 57, 46, 58, 47, 59].getD u 0)

/-! ## The loads of the two blocks -/

section Parts

variable {c : Dev nD} {w t u : ℕ} {R : sProp (MT nD τ sig Unit (Elt F) ℕ UU ℕ)} {α : Type} {Q : α → sProp (MT nD τ sig Unit (Elt F) ℕ UU ℕ)}

/-- Slice `s` of a device's block of `W`. -/
def wSlice (m : (ℓ : Loc nD τ sig) → Buf (Elt F) ℓ) (ρ : Dev nD → PrngReg) (c : Dev nD) (s : Fin 4) : Vec F S512x1024 .f32 :=
  (wM : Memref sig .tc .vmem S512x4096 .f32).view.readAt (Elt F) (Rect.unit (s := S512x4096) ![0, 1024 * s.val] S512x1024.size (inbW s)).toLoadRect (wstg m ρ c)

/-- The load of the whole of `x`. -/
theorem load_x_all {inb : ∀ a, (![0, 0] : Fin 2 → ℕ) a + S256x512.size a ≤ S256x512.size a}
    {hl : (xM : Memref sig .tc .vmem S256x512 .f32).view.LoadsAt (Rect.unit (s := S256x512) ![0, 0] S256x512.size inb).toLoadRect}
    {k : Vec F S256x512 .f32 → Prog (TpuEff nD τ sig (Elt F) Λ₀ .tc) α}
    (h : iprop(St1 m ρ N c w t u ∗ R) ⊢ WP c (k (xstg m ρ c)) Q) :
    iprop(St1 m ρ N c w t u ∗ R) ⊢ WP c (.op (.load xM (Rect.unit (s := S256x512) ![0, 0] S256x512.size inb).toLoadRect hl) k) Q := by
  refine load_x (r := (Rect.unit (s := S256x512) ![0, 0] S256x512.size inb).toLoadRect) ?_
  have e : (xM : Memref sig .tc .vmem S256x512 .f32).view.readAt (Elt F) (Rect.unit (s := S256x512) ![0, 0] S256x512.size inb).toLoadRect (xstg m ρ c) = xstg m ρ c :=
    Memref.readAt_unit_zero (Elt F) cc0_stg0_0 (funext fun a => by fin_cases a <;> rfl) _ _
  rw [e]
  exact h

/-- The load of slice `s` of the block of `W`. -/
theorem load_w_slice (s : Fin 4) {off : Fin 2 → ℕ} {inb : ∀ a, off a + S512x1024.size a ≤ S512x4096.size a}
    {hl : (wM : Memref sig .tc .vmem S512x4096 .f32).view.LoadsAt (Rect.unit (s := S512x4096) off S512x1024.size inb).toLoadRect}
    {k : Vec F S512x1024 .f32 → Prog (TpuEff nD τ sig (Elt F) Λ₀ .tc) α} (ho : off = ![0, 1024 * s.val])
    (h : iprop(St1 m ρ N c w t u ∗ R) ⊢ WP c (k (wSlice m ρ c s)) Q) :
    iprop(St1 m ρ N c w t u ∗ R) ⊢ WP c (.op (.load wM (Rect.unit (s := S512x4096) off S512x1024.size inb).toLoadRect hl) k) Q := by
  subst ho
  exact load_w (r := (Rect.unit (s := S512x4096) ![0, 1024 * s.val] S512x1024.size inb).toLoadRect) h

theorem pay3_eq (x : FVec F S256x512 .f32) (w : Vec F S512x1024 .f32) : k0_pay3 x w = k0_pay4 (k0_pay2 x) w := rfl
theorem pay5_eq (x : FVec F S256x512 .bf16) (w : Vec F S512x1024 .f32) : k0_pay5 x w = k0_pay4 x w := rfl
theorem pay6_eq (x : FVec F S256x512 .bf16) (w : Vec F S512x1024 .f32) : k0_pay6 x w = k0_pay4 x w := rfl
theorem eSlice_eq (s : Fin 4) : k0_pay4 (k0_pay2 (xstg m ρ c)) (wSlice m ρ c s) = eSlice m ρ c s := rfl

/-! ## The transfers, by their places -/

/-- The transfer next to be issued. -/
theorem send_at {n : Dev nD} {off : Fin 2 → ℕ} {size : Fin 2 → ℕ} {inb inb' : ∀ a, off a + size a ≤ S256x16384.size a} {al al'}
    {sS sR : DmaSem sig} {hsc hsrc hdst hsem} {k : PUnit → Prog (TpuEff nD τ sig (Elt F) Λ₀ .tc) α}
    (h : iprop(St1 m ρ N c w (t + 1) u ∗ R) ⊢ WP c (k ⟨⟩) Q)
    (ht : ord (issue t) = t) (hr : ready (issue t) w u = true) (hs : size = ![rows (issue t).1, 1024])
    (hS : sS = dsem false (issue t)) (hR : sR = dsem true (issue t))
    (hn : n = tgt (issue t).1 c) (ho : off = ![(src c (issue t)).r, (src c (issue t)).c]) :
    iprop(St1 m ρ N c w t u ∗ R) ⊢ WP c (.op (.enqueueDma ((gM : Memref sig .tc .vmem S256x16384 .bf16).slice (Rect.unit (s := S256x16384) off size inb) al)
      (.remote (Dev.tc n : Thread nD τ) ((gM : Memref sig .tc .vmem S256x16384 .bf16).slice (Rect.unit (s := S256x16384) off size inb') al') (.dma sS) hsc) (.dma sR) hsrc hdst hsem) k) Q := by
  subst hn ho
  exact send_step (issue t) ht hr (nF := tgt (issue t).1) (fun _ => rfl) (offF := fun c => ![(src c (issue t)).r, (src c (issue t)).c]) (fun _ => rfl) hs hS hR h

/-- The wait for the transfer next to arrive. -/
theorem recv_at {off : Fin 2 → ℕ} {size : Fin 2 → ℕ} {inb : ∀ a, off a + size a ≤ S256x16384.size a} {al} {sR : DmaSem sig}
    {sp' : Space} {s' : Shape} {e' : EltTy} {a : Memref sig .tc sp' s' e'} {hsrc hdst} {k : PUnit → Prog (TpuEff nD τ sig (Elt F) Λ₀ .tc) α}
    (h : iprop(St1 m ρ N c w t (u + 1) ∗ R) ⊢ WP c (k ⟨⟩) Q)
    (hu : ordR (await u) = u) (ht : ord (await u) < t) (hs : size = ![rows (await u).1, 1024]) (hR : sR = dsem true (await u)) :
    iprop(St1 m ρ N c w t u ∗ R) ⊢ WP c (.op (.waitDma2 sR a
      ((gM : Memref sig .tc .vmem S256x16384 .bf16).slice (Rect.unit (s := S256x16384) off size inb) al) hsrc hdst) k) Q :=
  recv_step (await u) hu ht (offF := fun _ => off) hs hR h

/-- The wait for the transfer next to have left. -/
theorem back_at {v : ℕ} {off : Fin 2 → ℕ} {size : Fin 2 → ℕ} {inb : ∀ a, off a + size a ≤ S256x16384.size a} {al} {sS : DmaSem sig}
    {sp' : Space} {s' : Shape} {e' : EltTy} {a : Memref sig .tc sp' s' e'} {hsrc hdst} {k : PUnit → Prog (TpuEff nD τ sig (Elt F) Λ₀ .tc) α}
    (h : iprop(St2 m ρ N c (v + 1) ∗ R) ⊢ WP c (k ⟨⟩) Q)
    (hv : ordW (leaves v) = v) (hs : size = ![rows (leaves v).1, 1024]) (hS : sS = dsem false (leaves v)) :
    iprop(St2 m ρ N c v ∗ R) ⊢ WP c (.op (.waitDma2 sS a
      ((gM : Memref sig .tc .vmem S256x16384 .bf16).slice (Rect.unit (s := S256x16384) off size inb) al) hsrc hdst) k) Q :=
  back_step (leaves v) hv (offF := fun _ => off) hs hS h

/-- One part of the body, then the rest, when what follows uses the part's result. -/
theorem bind_step {β : Type} {P : sProp (MT nD τ sig Unit (Elt F) ℕ UU ℕ)} {p : Prog (TpuEff nD τ sig (Elt F) Λ₀ .tc) β} {k : β → Prog (TpuEff nD τ sig (Elt F) Λ₀ .tc) α}
    (h : P ⊢ WP c p fun r => WP c (k r) Q) : P ⊢ WP c (p >>= k) Q := by
  unfold WP at *; rw [wp_bind]; exact h

/-! ## The parts up to the first round of the ring -/

theorem part1 {Q} (h : ∀ v2 v5 v8 v19 v30 v32 v35, iprop(St0 m ρ N c (O₀ c) 0 ∗ R) ⊢ Q ⟨c, v2, v5, v8, v19, v30, v32, v35⟩) :
    iprop(St0 m ρ N c (O₀ c) 0 ∗ R) ⊢ WP c (k0_part1 xM (Memref.isWhole_whole _) wM (Memref.isWhole_whole _) oM (Memref.isWhole_whole _) gM (Memref.isWhole_whole _)
      cc0_scratch1 cc0_scratch2 cc0_scratch3 cc0_scratch4 cc0_scratch5 cc0_scratch6 cc0_scratch7 cc0_scratch8 cc0_scratch9 cc0_scratch10) Q := by
  rw [k0_part1_eq_skeleton]
  unfold k0_part1_skel
  refine device_step ?_
  exact ret_step (h _ _ _ _ _ _ _)

theorem part2 {Q} (v2 v5 v8 v19 v30 : BitVec 32)
    (h : ∀ v38 v39, SemArray.sem v39 = barS → iprop(St0 m ρ N c (owed c 0) 4 ∗ R) ⊢ Q ⟨v38, v39⟩) :
    iprop(St0 m ρ N c (O₀ c) 0 ∗ R) ⊢ WP c (k0_part2 xM (Memref.isWhole_whole _) wM (Memref.isWhole_whole _) oM (Memref.isWhole_whole _) gM (Memref.isWhole_whole _)
      cc0_scratch1 cc0_scratch2 cc0_scratch3 cc0_scratch4 cc0_scratch5 cc0_scratch6 cc0_scratch7 cc0_scratch8 cc0_scratch9 cc0_scratch10 c v2 v5 v8 v19 v30) Q := by
  rw [k0_part2_eq_skeleton]
  unfold k0_part2_skel O₀
  refine signal_step 0 rfl (nF := fun c => ⟨k0_dev1 c, k0_dev1_lt c⟩) (by decide +kernel) rfl rfl ?_
  refine signal_step 1 rfl (nF := fun c => ⟨k0_dev2 c, k0_dev2_lt c⟩) (by decide +kernel) rfl rfl ?_
  refine signal_step 2 rfl (nF := fun c => ⟨k0_dev3 c, k0_dev3_lt c⟩) (by decide +kernel) rfl rfl ?_
  refine signal_step 3 rfl (nF := fun c => ⟨k0_dev4 c, k0_dev4_lt c⟩) (by decide +kernel) rfl rfl ?_
  exact ret_step (h _ _ rfl)

theorem part3 {Q} (v2 v5 v8 v32 : BitVec 32) {v39 : Sems sig S_} (h39 : v39.sem = barS)
    (h : ∀ v66 v67 v97 z, iprop(St1 m ρ N c 1 0 0 ∗ R) ⊢ Q ⟨v66, v67, k0_pay2 (xstg m ρ c), v97, z⟩) :
    iprop(St0 m ρ N c (owed c 0) 4 ∗ R) ⊢ WP c (k0_part3 xM (Memref.isWhole_whole _) wM (Memref.isWhole_whole _) oM (Memref.isWhole_whole _) gM (Memref.isWhole_whole _)
      cc0_scratch1 cc0_scratch2 cc0_scratch3 cc0_scratch4 cc0_scratch5 cc0_scratch6 cc0_scratch7 cc0_scratch8 cc0_scratch9 cc0_scratch10 c v2 v5 v8 v32 v39) Q := by
  rw [k0_part3_eq_skeleton]
  unfold k0_part3_skel
  refine barrier_step h39 rfl ?_
  refine load_x_all ?_
  refine load_w_slice 0 rfl ?_
  refine load_own (offF := fun c => k0_off1 c 0#32) 0 rfl (by decide +kernel) fun v => ?_
  refine store_own (offF := fun c => k0_off1 c 0#32) 0 rfl (by decide +kernel) ((pay3_eq _ _).trans (eSlice_eq 0)) ?_
  exact ret_step (h _ _ _ _)

theorem part4 {Q} (v5 v8 v30 v32 v97 z : BitVec 32)
    (h : ∀ r, iprop(St1 m ρ N c 2 1 0 ∗ R) ⊢ Q r) :
    iprop(St1 m ρ N c 1 0 0 ∗ R) ⊢ WP c (k0_part4 xM (Memref.isWhole_whole _) wM (Memref.isWhole_whole _) oM (Memref.isWhole_whole _) gM (Memref.isWhole_whole _)
      cc0_scratch1 cc0_scratch2 cc0_scratch3 cc0_scratch4 cc0_scratch5 cc0_scratch6 cc0_scratch7 cc0_scratch8 cc0_scratch9 cc0_scratch10 c v5 v8 v30 v32 (k0_pay2 (xstg m ρ c)) v97 z) Q := by
  rw [k0_part4_eq_skeleton]
  unfold k0_part4_skel
  refine send_at ?_ rfl rfl rfl rfl rfl (by generalize c = d; revert d; decide +kernel) (by generalize c = d; revert d; decide +kernel)
  refine load_w_slice 1 rfl ?_
  refine load_own (offF := fun c => k0_off1 c 1024#32) 1 rfl (by decide +kernel) fun v => ?_
  refine store_own (offF := fun c => k0_off1 c 1024#32) 1 rfl (by decide +kernel) (eSlice_eq 1) ?_
  exact ret_step (h _)

theorem part5 {Q} (v2 v5 v8 v30 v32 : BitVec 32)
    (h : ∀ r, iprop(St1 m ρ N c 3 2 0 ∗ R) ⊢ Q r) :
    iprop(St1 m ρ N c 2 1 0 ∗ R) ⊢ WP c (k0_part5 xM (Memref.isWhole_whole _) wM (Memref.isWhole_whole _) oM (Memref.isWhole_whole _) gM (Memref.isWhole_whole _)
      cc0_scratch1 cc0_scratch2 cc0_scratch3 cc0_scratch4 cc0_scratch5 cc0_scratch6 cc0_scratch7 cc0_scratch8 cc0_scratch9 cc0_scratch10 c v2 v5 v8 v30 v32 (k0_pay2 (xstg m ρ c))) Q := by
  rw [k0_part5_eq_skeleton]
  unfold k0_part5_skel
  refine send_at ?_ rfl rfl rfl rfl rfl (by generalize c = d; revert d; decide +kernel) (by generalize c = d; revert d; decide +kernel)
  refine load_w_slice 2 rfl ?_
  refine load_own (offF := fun c => k0_off1 c 2048#32) 2 rfl (by decide +kernel) fun v => ?_
  refine store_own (offF := fun c => k0_off1 c 2048#32) 2 rfl (by decide +kernel) ((pay5_eq _ _).trans (eSlice_eq 2)) ?_
  exact ret_step (h _)

theorem part6 {Q} (v2 v5 v8 v30 v171 z : BitVec 32)
    (h : ∀ r, iprop(St1 m ρ N c 4 3 0 ∗ R) ⊢ Q r) :
    iprop(St1 m ρ N c 3 2 0 ∗ R) ⊢ WP c (k0_part6 xM (Memref.isWhole_whole _) wM (Memref.isWhole_whole _) oM (Memref.isWhole_whole _) gM (Memref.isWhole_whole _)
      cc0_scratch1 cc0_scratch2 cc0_scratch3 cc0_scratch4 cc0_scratch5 cc0_scratch6 cc0_scratch7 cc0_scratch8 cc0_scratch9 cc0_scratch10 c v2 v5 v8 v30 (k0_pay2 (xstg m ρ c)) v171 z) Q := by
  rw [k0_part6_eq_skeleton]
  unfold k0_part6_skel
  refine send_at ?_ rfl rfl rfl rfl rfl (by generalize c = d; revert d; decide +kernel) (by generalize c = d; revert d; decide +kernel)
  refine load_w_slice 3 rfl ?_
  refine load_own (offF := fun c => k0_off1 c 3072#32) 3 rfl (by decide +kernel) fun v => ?_
  refine store_own (offF := fun c => k0_off1 c 3072#32) 3 rfl (by decide +kernel) ((pay6_eq _ _).trans (eSlice_eq 3)) ?_
  exact ret_step (h _)

/-! ## The parts up to the last hop -/

set_option maxRecDepth 65536 in
set_option maxHeartbeats 4000000 in
theorem part82 {Q} (h : ∀ v2 v5 v8 v35 v38 v66 v67 v2035 z, iprop(St1 m ρ N c 4 58 35 ∗ R) ⊢ Q ⟨c, v2, v5, v8, v35, v38, v66, v67, v2035, z⟩) :
    iprop(St0 m ρ N c (O₀ c) 0 ∗ R) ⊢ WP c (k0_part82 xM (Memref.isWhole_whole _) wM (Memref.isWhole_whole _) oM (Memref.isWhole_whole _) gM (Memref.isWhole_whole _)
      cc0_scratch1 cc0_scratch2 cc0_scratch3 cc0_scratch4 cc0_scratch5 cc0_scratch6 cc0_scratch7 cc0_scratch8 cc0_scratch9 cc0_scratch10) Q := by
  rw [k0_part82_eq_skeleton]
  unfold k0_part82_skel
  refine bind_step (part1 fun v2 v5 v8 v19 v30 v32 v35 => ?_)
  refine bind_step (part2 _ _ _ _ _ fun v38 v39 h39 => ?_)
  refine bind_step (part3 _ _ _ _ h39 fun v66 v67 v97 z => ?_)
  refine bind_step (part4 _ _ _ _ _ _ fun _ => ?_)
  refine bind_step (part5 _ _ _ _ _ fun _ => ?_)
  refine bind_step (part6 _ _ _ _ _ _ fun _ => ?_)
  refine seq (P' := iprop(St1 m ρ N c 4 4 1 ∗ R)) (fun Q' h => ?_) (fun _ => ?_)
  · rw [k0_part7_eq_skeleton]
    unfold k0_part7_skel
    refine send_at ?_ rfl rfl rfl rfl rfl (by generalize c = d; revert d; decide +kernel) (by generalize c = d; revert d; decide +kernel)
    refine recv_at ?_ rfl (by decide +kernel) rfl rfl
    exact ret_step (h _)
  refine seq (P' := iprop(St1 m ρ N c 4 5 1 ∗ R)) (fun Q' h => ?_) (fun _ => ?_)
  · rw [k0_part8_eq_skeleton]
    unfold k0_part8_skel
    refine send_at ?_ rfl rfl rfl rfl rfl (by generalize c = d; revert d; decide +kernel) (by generalize c = d; revert d; decide +kernel)
    exact ret_step (h _)
  refine seq (P' := iprop(St1 m ρ N c 4 6 1 ∗ R)) (fun Q' h => ?_) (fun _ => ?_)
  · rw [k0_part9_eq_skeleton]
    unfold k0_part9_skel
    refine send_at ?_ rfl rfl rfl rfl rfl (by generalize c = d; revert d; decide +kernel) (by generalize c = d; revert d; decide +kernel)
    exact ret_step (h _)
  refine seq (P' := iprop(St1 m ρ N c 4 7 2 ∗ R)) (fun Q' h => ?_) (fun _ => ?_)
  · rw [k0_part10_eq_skeleton]
    unfold k0_part10_skel
    refine send_at ?_ rfl rfl rfl rfl rfl (by generalize c = d; revert d; decide +kernel) (by generalize c = d; revert d; decide +kernel)
    refine recv_at ?_ rfl (by decide +kernel) rfl rfl
    exact ret_step (h _)
  refine seq (P' := iprop(St1 m ρ N c 4 9 2 ∗ R)) (fun Q' h => ?_) (fun _ => ?_)
  · rw [k0_part11_eq_skeleton]
    unfold k0_part11_skel
    refine send_at ?_ rfl rfl rfl rfl rfl (by generalize c = d; revert d; decide +kernel) (by generalize c = d; revert d; decide +kernel)
    refine send_at ?_ rfl rfl rfl rfl rfl (by generalize c = d; revert d; decide +kernel) (by generalize c = d; revert d; decide +kernel)
    exact ret_step (h _)
  refine seq (P' := iprop(St1 m ρ N c 4 10 2 ∗ R)) (fun Q' h => ?_) (fun _ => ?_)
  · rw [k0_part12_eq_skeleton]
    unfold k0_part12_skel
    refine send_at ?_ rfl rfl rfl rfl rfl (by generalize c = d; revert d; decide +kernel) (by generalize c = d; revert d; decide +kernel)
    exact ret_step (h _)
  refine seq (P' := iprop(St1 m ρ N c 4 11 3 ∗ R)) (fun Q' h => ?_) (fun _ => ?_)
  · rw [k0_part13_eq_skeleton]
    unfold k0_part13_skel
    refine recv_at ?_ rfl (by decide +kernel) rfl rfl
    refine send_at ?_ rfl rfl rfl rfl rfl (by generalize c = d; revert d; decide +kernel) (by generalize c = d; revert d; decide +kernel)
    exact ret_step (h _)
  refine seq (P' := iprop(St1 m ρ N c 4 12 3 ∗ R)) (fun Q' h => ?_) (fun _ => ?_)
  · rw [k0_part14_eq_skeleton]
    unfold k0_part14_skel
    refine send_at ?_ rfl rfl rfl rfl rfl (by generalize c = d; revert d; decide +kernel) (by generalize c = d; revert d; decide +kernel)
    exact ret_step (h _)
  refine seq (P' := iprop(St1 m ρ N c 4 13 4 ∗ R)) (fun Q' h => ?_) (fun _ => ?_)
  · rw [k0_part15_eq_skeleton]
    unfold k0_part15_skel
    refine send_at ?_ rfl rfl rfl rfl rfl (by generalize c = d; revert d; decide +kernel) (by generalize c = d; revert d; decide +kernel)
    refine recv_at ?_ rfl (by decide +kernel) rfl rfl
    exact ret_step (h _)
  refine seq (P' := iprop(St1 m ρ N c 4 14 4 ∗ R)) (fun Q' h => ?_) (fun _ => ?_)
  · rw [k0_part16_eq_skeleton]
    unfold k0_part16_skel
    refine send_at ?_ rfl rfl rfl rfl rfl (by generalize c = d; revert d; decide +kernel) (by generalize c = d; revert d; decide +kernel)
    exact ret_step (h _)
  refine seq (P' := iprop(St1 m ρ N c 4 16 4 ∗ R)) (fun Q' h => ?_) (fun _ => ?_)
  · rw [k0_part17_eq_skeleton]
    unfold k0_part17_skel
    refine send_at ?_ rfl rfl rfl rfl rfl (by generalize c = d; revert d; decide +kernel) (by generalize c = d; revert d; decide +kernel)
    refine send_at ?_ rfl rfl rfl rfl rfl (by generalize c = d; revert d; decide +kernel) (by generalize c = d; revert d; decide +kernel)
    exact ret_step (h _)
  refine seq (P' := iprop(St1 m ρ N c 4 16 5 ∗ R)) (fun Q' h => ?_) (fun _ => ?_)
  · rw [k0_part18_eq_skeleton]
    unfold k0_part18_skel
    refine recv_at ?_ rfl (by decide +kernel) rfl rfl
    exact ret_step (h _)
  refine seq (P' := iprop(St1 m ρ N c 4 18 5 ∗ R)) (fun Q' h => ?_) (fun _ => ?_)
  · rw [k0_part19_eq_skeleton]
    unfold k0_part19_skel
    refine send_at ?_ rfl rfl rfl rfl rfl (by generalize c = d; revert d; decide +kernel) (by generalize c = d; revert d; decide +kernel)
    refine send_at ?_ rfl rfl rfl rfl rfl (by generalize c = d; revert d; decide +kernel) (by generalize c = d; revert d; decide +kernel)
    exact ret_step (h _)
  refine seq (P' := iprop(St1 m ρ N c 4 19 6 ∗ R)) (fun Q' h => ?_) (fun _ => ?_)
  · rw [k0_part20_eq_skeleton]
    unfold k0_part20_skel
    refine send_at ?_ rfl rfl rfl rfl rfl (by generalize c = d; revert d; decide +kernel) (by generalize c = d; revert d; decide +kernel)
    refine recv_at ?_ rfl (by decide +kernel) rfl rfl
    exact ret_step (h _)
  refine seq (P' := iprop(St1 m ρ N c 4 20 6 ∗ R)) (fun Q' h => ?_) (fun _ => ?_)
  · rw [k0_part21_eq_skeleton]
    unfold k0_part21_skel
    refine send_at ?_ rfl rfl rfl rfl rfl (by generalize c = d; revert d; decide +kernel) (by generalize c = d; revert d; decide +kernel)
    exact ret_step (h _)
  refine seq (P' := iprop(St1 m ρ N c 4 21 7 ∗ R)) (fun Q' h => ?_) (fun _ => ?_)
  · rw [k0_part22_eq_skeleton]
    unfold k0_part22_skel
    refine recv_at ?_ rfl (by decide +kernel) rfl rfl
    refine send_at ?_ rfl rfl rfl rfl rfl (by generalize c = d; revert d; decide +kernel) (by generalize c = d; revert d; decide +kernel)
    exact ret_step (h _)
  refine seq (P' := iprop(St1 m ρ N c 4 22 8 ∗ R)) (fun Q' h => ?_) (fun _ => ?_)
  · rw [k0_part23_eq_skeleton]
    unfold k0_part23_skel
    refine recv_at ?_ rfl (by decide +kernel) rfl rfl
    refine send_at ?_ rfl rfl rfl rfl rfl (by generalize c = d; revert d; decide +kernel) (by generalize c = d; revert d; decide +kernel)
    exact ret_step (h _)
  refine seq (P' := iprop(St1 m ρ N c 4 23 8 ∗ R)) (fun Q' h => ?_) (fun _ => ?_)
  · rw [k0_part24_eq_skeleton]
    unfold k0_part24_skel
    refine send_at ?_ rfl rfl rfl rfl rfl (by generalize c = d; revert d; decide +kernel) (by generalize c = d; revert d; decide +kernel)
    exact ret_step (h _)
  refine seq (P' := iprop(St1 m ρ N c 4 24 9 ∗ R)) (fun Q' h => ?_) (fun _ => ?_)
  · rw [k0_part25_eq_skeleton]
    unfold k0_part25_skel
    refine send_at ?_ rfl rfl rfl rfl rfl (by generalize c = d; revert d; decide +kernel) (by generalize c = d; revert d; decide +kernel)
    refine recv_at ?_ rfl (by decide +kernel) rfl rfl
    exact ret_step (h _)
  refine seq (P' := iprop(St1 m ρ N c 4 25 10 ∗ R)) (fun Q' h => ?_) (fun _ => ?_)
  · rw [k0_part26_eq_skeleton]
    unfold k0_part26_skel
    refine send_at ?_ rfl rfl rfl rfl rfl (by generalize c = d; revert d; decide +kernel) (by generalize c = d; revert d; decide +kernel)
    refine recv_at ?_ rfl (by decide +kernel) rfl rfl
    exact ret_step (h _)
  refine seq (P' := iprop(St1 m ρ N c 4 26 10 ∗ R)) (fun Q' h => ?_) (fun _ => ?_)
  · rw [k0_part27_eq_skeleton]
    unfold k0_part27_skel
    refine send_at ?_ rfl rfl rfl rfl rfl (by generalize c = d; revert d; decide +kernel) (by generalize c = d; revert d; decide +kernel)
    exact ret_step (h _)
  refine seq (P' := iprop(St1 m ρ N c 4 27 11 ∗ R)) (fun Q' h => ?_) (fun _ => ?_)
  · rw [k0_part28_eq_skeleton]
    unfold k0_part28_skel
    refine recv_at ?_ rfl (by decide +kernel) rfl rfl
    refine send_at ?_ rfl rfl rfl rfl rfl (by generalize c = d; revert d; decide +kernel) (by generalize c = d; revert d; decide +kernel)
    exact ret_step (h _)
  refine seq (P' := iprop(St1 m ρ N c 4 28 11 ∗ R)) (fun Q' h => ?_) (fun _ => ?_)
  · rw [k0_part29_eq_skeleton]
    unfold k0_part29_skel
    refine send_at ?_ rfl rfl rfl rfl rfl (by generalize c = d; revert d; decide +kernel) (by generalize c = d; revert d; decide +kernel)
    exact ret_step (h _)
  refine seq (P' := iprop(St1 m ρ N c 4 29 12 ∗ R)) (fun Q' h => ?_) (fun _ => ?_)
  · rw [k0_part30_eq_skeleton]
    unfold k0_part30_skel
    refine send_at ?_ rfl rfl rfl rfl rfl (by generalize c = d; revert d; decide +kernel) (by generalize c = d; revert d; decide +kernel)
    refine recv_at ?_ rfl (by decide +kernel) rfl rfl
    exact ret_step (h _)
  refine seq (P' := iprop(St1 m ρ N c 4 30 13 ∗ R)) (fun Q' h => ?_) (fun _ => ?_)
  · rw [k0_part31_eq_skeleton]
    unfold k0_part31_skel
    refine send_at ?_ rfl rfl rfl rfl rfl (by generalize c = d; revert d; decide +kernel) (by generalize c = d; revert d; decide +kernel)
    refine recv_at ?_ rfl (by decide +kernel) rfl rfl
    exact ret_step (h _)
  refine seq (P' := iprop(St1 m ρ N c 4 31 14 ∗ R)) (fun Q' h => ?_) (fun _ => ?_)
  · rw [k0_part32_eq_skeleton]
    unfold k0_part32_skel
    refine send_at ?_ rfl rfl rfl rfl rfl (by generalize c = d; revert d; decide +kernel) (by generalize c = d; revert d; decide +kernel)
    refine recv_at ?_ rfl (by decide +kernel) rfl rfl
    exact ret_step (h _)
  refine seq (P' := iprop(St1 m ρ N c 4 32 14 ∗ R)) (fun Q' h => ?_) (fun _ => ?_)
  · rw [k0_part33_eq_skeleton]
    unfold k0_part33_skel
    refine send_at ?_ rfl rfl rfl rfl rfl (by generalize c = d; revert d; decide +kernel) (by generalize c = d; revert d; decide +kernel)
    exact ret_step (h _)
  refine seq (P' := iprop(St1 m ρ N c 4 33 14 ∗ R)) (fun Q' h => ?_) (fun _ => ?_)
  · rw [k0_part34_eq_skeleton]
    unfold k0_part34_skel
    refine send_at ?_ rfl rfl rfl rfl rfl (by generalize c = d; revert d; decide +kernel) (by generalize c = d; revert d; decide +kernel)
    exact ret_step (h _)
  refine seq (P' := iprop(St1 m ρ N c 4 34 15 ∗ R)) (fun Q' h => ?_) (fun _ => ?_)
  · rw [k0_part35_eq_skeleton]
    unfold k0_part35_skel
    refine send_at ?_ rfl rfl rfl rfl rfl (by generalize c = d; revert d; decide +kernel) (by generalize c = d; revert d; decide +kernel)
    refine recv_at ?_ rfl (by decide +kernel) rfl rfl
    exact ret_step (h _)
  refine seq (P' := iprop(St1 m ρ N c 4 35 16 ∗ R)) (fun Q' h => ?_) (fun _ => ?_)
  · rw [k0_part36_eq_skeleton]
    unfold k0_part36_skel
    refine send_at ?_ rfl rfl rfl rfl rfl (by generalize c = d; revert d; decide +kernel) (by generalize c = d; revert d; decide +kernel)
    refine recv_at ?_ rfl (by decide +kernel) rfl rfl
    exact ret_step (h _)
  refine seq (P' := iprop(St1 m ρ N c 4 36 17 ∗ R)) (fun Q' h => ?_) (fun _ => ?_)
  · rw [k0_part37_eq_skeleton]
    unfold k0_part37_skel
    refine send_at ?_ rfl rfl rfl rfl rfl (by generalize c = d; revert d; decide +kernel) (by generalize c = d; revert d; decide +kernel)
    refine recv_at ?_ rfl (by decide +kernel) rfl rfl
    exact ret_step (h _)
  refine seq (P' := iprop(St1 m ρ N c 4 37 17 ∗ R)) (fun Q' h => ?_) (fun _ => ?_)
  · rw [k0_part38_eq_skeleton]
    unfold k0_part38_skel
    refine send_at ?_ rfl rfl rfl rfl rfl (by generalize c = d; revert d; decide +kernel) (by generalize c = d; revert d; decide +kernel)
    exact ret_step (h _)
  refine seq (P' := iprop(St1 m ρ N c 4 38 18 ∗ R)) (fun Q' h => ?_) (fun _ => ?_)
  · rw [k0_part39_eq_skeleton]
    unfold k0_part39_skel
    refine send_at ?_ rfl rfl rfl rfl rfl (by generalize c = d; revert d; decide +kernel) (by generalize c = d; revert d; decide +kernel)
    refine recv_at ?_ rfl (by decide +kernel) rfl rfl
    exact ret_step (h _)
  refine seq (P' := iprop(St1 m ρ N c 4 39 19 ∗ R)) (fun Q' h => ?_) (fun _ => ?_)
  · rw [k0_part40_eq_skeleton]
    unfold k0_part40_skel
    refine send_at ?_ rfl rfl rfl rfl rfl (by generalize c = d; revert d; decide +kernel) (by generalize c = d; revert d; decide +kernel)
    refine recv_at ?_ rfl (by decide +kernel) rfl rfl
    exact ret_step (h _)
  refine seq (P' := iprop(St1 m ρ N c 4 40 20 ∗ R)) (fun Q' h => ?_) (fun _ => ?_)
  · rw [k0_part41_eq_skeleton]
    unfold k0_part41_skel
    refine send_at ?_ rfl rfl rfl rfl rfl (by generalize c = d; revert d; decide +kernel) (by generalize c = d; revert d; decide +kernel)
    refine recv_at ?_ rfl (by decide +kernel) rfl rfl
    exact ret_step (h _)
  refine seq (P' := iprop(St1 m ρ N c 4 41 20 ∗ R)) (fun Q' h => ?_) (fun _ => ?_)
  · rw [k0_part42_eq_skeleton]
    unfold k0_part42_skel
    refine send_at ?_ rfl rfl rfl rfl rfl (by generalize c = d; revert d; decide +kernel) (by generalize c = d; revert d; decide +kernel)
    exact ret_step (h _)
  refine seq (P' := iprop(St1 m ρ N c 4 42 21 ∗ R)) (fun Q' h => ?_) (fun _ => ?_)
  · rw [k0_part43_eq_skeleton]
    unfold k0_part43_skel
    refine send_at ?_ rfl rfl rfl rfl rfl (by generalize c = d; revert d; decide +kernel) (by generalize c = d; revert d; decide +kernel)
    refine recv_at ?_ rfl (by decide +kernel) rfl rfl
    exact ret_step (h _)
  refine seq (P' := iprop(St1 m ρ N c 4 43 22 ∗ R)) (fun Q' h => ?_) (fun _ => ?_)
  · rw [k0_part44_eq_skeleton]
    unfold k0_part44_skel
    refine send_at ?_ rfl rfl rfl rfl rfl (by generalize c = d; revert d; decide +kernel) (by generalize c = d; revert d; decide +kernel)
    refine recv_at ?_ rfl (by decide +kernel) rfl rfl
    exact ret_step (h _)
  refine seq (P' := iprop(St1 m ρ N c 4 44 23 ∗ R)) (fun Q' h => ?_) (fun _ => ?_)
  · rw [k0_part45_eq_skeleton]
    unfold k0_part45_skel
    refine send_at ?_ rfl rfl rfl rfl rfl (by generalize c = d; revert d; decide +kernel) (by generalize c = d; revert d; decide +kernel)
    refine recv_at ?_ rfl (by decide +kernel) rfl rfl
    exact ret_step (h _)
  refine seq (P' := iprop(St1 m ρ N c 4 45 23 ∗ R)) (fun Q' h => ?_) (fun _ => ?_)
  · rw [k0_part46_eq_skeleton]
    unfold k0_part46_skel
    refine send_at ?_ rfl rfl rfl rfl rfl (by generalize c = d; revert d; decide +kernel) (by generalize c = d; revert d; decide +kernel)
    exact ret_step (h _)
  refine seq (P' := iprop(St1 m ρ N c 4 46 24 ∗ R)) (fun Q' h => ?_) (fun _ => ?_)
  · rw [k0_part47_eq_skeleton]
    unfold k0_part47_skel
    refine send_at ?_ rfl rfl rfl rfl rfl (by generalize c = d; revert d; decide +kernel) (by generalize c = d; revert d; decide +kernel)
    refine recv_at ?_ rfl (by decide +kernel) rfl rfl
    exact ret_step (h _)
  refine seq (P' := iprop(St1 m ρ N c 4 47 25 ∗ R)) (fun Q' h => ?_) (fun _ => ?_)
  · rw [k0_part48_eq_skeleton]
    unfold k0_part48_skel
    refine send_at ?_ rfl rfl rfl rfl rfl (by generalize c = d; revert d; decide +kernel) (by generalize c = d; revert d; decide +kernel)
    refine recv_at ?_ rfl (by decide +kernel) rfl rfl
    exact ret_step (h _)
  refine seq (P' := iprop(St1 m ρ N c 4 48 25 ∗ R)) (fun Q' h => ?_) (fun _ => ?_)
  · rw [k0_part49_eq_skeleton]
    unfold k0_part49_skel
    refine send_at ?_ rfl rfl rfl rfl rfl (by generalize c = d; revert d; decide +kernel) (by generalize c = d; revert d; decide +kernel)
    exact ret_step (h _)
  refine seq (P' := iprop(St1 m ρ N c 4 49 26 ∗ R)) (fun Q' h => ?_) (fun _ => ?_)
  · rw [k0_part50_eq_skeleton]
    unfold k0_part50_skel
    refine recv_at ?_ rfl (by decide +kernel) rfl rfl
    refine send_at ?_ rfl rfl rfl rfl rfl (by generalize c = d; revert d; decide +kernel) (by generalize c = d; revert d; decide +kernel)
    exact ret_step (h _)
  refine seq (P' := iprop(St1 m ρ N c 4 50 27 ∗ R)) (fun Q' h => ?_) (fun _ => ?_)
  · rw [k0_part51_eq_skeleton]
    unfold k0_part51_skel
    refine send_at ?_ rfl rfl rfl rfl rfl (by generalize c = d; revert d; decide +kernel) (by generalize c = d; revert d; decide +kernel)
    refine recv_at ?_ rfl (by decide +kernel) rfl rfl
    exact ret_step (h _)
  refine seq (P' := iprop(St1 m ρ N c 4 51 27 ∗ R)) (fun Q' h => ?_) (fun _ => ?_)
  · rw [k0_part52_eq_skeleton]
    unfold k0_part52_skel
    refine send_at ?_ rfl rfl rfl rfl rfl (by generalize c = d; revert d; decide +kernel) (by generalize c = d; revert d; decide +kernel)
    exact ret_step (h _)
  refine seq (P' := iprop(St1 m ρ N c 4 52 28 ∗ R)) (fun Q' h => ?_) (fun _ => ?_)
  · rw [k0_part53_eq_skeleton]
    unfold k0_part53_skel
    refine recv_at ?_ rfl (by decide +kernel) rfl rfl
    refine send_at ?_ rfl rfl rfl rfl rfl (by generalize c = d; revert d; decide +kernel) (by generalize c = d; revert d; decide +kernel)
    exact ret_step (h _)
  refine seq (P' := iprop(St1 m ρ N c 4 52 29 ∗ R)) (fun Q' h => ?_) (fun _ => ?_)
  · rw [k0_part54_eq_skeleton]
    unfold k0_part54_skel
    refine recv_at ?_ rfl (by decide +kernel) rfl rfl
    exact ret_step (h _)
  refine seq (P' := iprop(St1 m ρ N c 4 53 30 ∗ R)) (fun Q' h => ?_) (fun _ => ?_)
  · rw [k0_part55_eq_skeleton]
    unfold k0_part55_skel
    refine send_at ?_ rfl rfl rfl rfl rfl (by generalize c = d; revert d; decide +kernel) (by generalize c = d; revert d; decide +kernel)
    refine recv_at ?_ rfl (by decide +kernel) rfl rfl
    exact ret_step (h _)
  refine seq (P' := iprop(St1 m ρ N c 4 54 31 ∗ R)) (fun Q' h => ?_) (fun _ => ?_)
  · rw [k0_part56_eq_skeleton]
    unfold k0_part56_skel
    refine send_at ?_ rfl rfl rfl rfl rfl (by generalize c = d; revert d; decide +kernel) (by generalize c = d; revert d; decide +kernel)
    refine recv_at ?_ rfl (by decide +kernel) rfl rfl
    exact ret_step (h _)
  refine seq (P' := iprop(St1 m ρ N c 4 55 32 ∗ R)) (fun Q' h => ?_) (fun _ => ?_)
  · rw [k0_part57_eq_skeleton]
    unfold k0_part57_skel
    refine send_at ?_ rfl rfl rfl rfl rfl (by generalize c = d; revert d; decide +kernel) (by generalize c = d; revert d; decide +kernel)
    refine recv_at ?_ rfl (by decide +kernel) rfl rfl
    exact ret_step (h _)
  refine seq (P' := iprop(St1 m ρ N c 4 56 33 ∗ R)) (fun Q' h => ?_) (fun _ => ?_)
  · rw [k0_part58_eq_skeleton]
    unfold k0_part58_skel
    refine send_at ?_ rfl rfl rfl rfl rfl (by generalize c = d; revert d; decide +kernel) (by generalize c = d; revert d; decide +kernel)
    refine recv_at ?_ rfl (by decide +kernel) rfl rfl
    exact ret_step (h _)
  refine seq (P' := iprop(St1 m ρ N c 4 57 34 ∗ R)) (fun Q' h => ?_) (fun _ => ?_)
  · rw [k0_part59_eq_skeleton]
    unfold k0_part59_skel
    refine send_at ?_ rfl rfl rfl rfl rfl (by generalize c = d; revert d; decide +kernel) (by generalize c = d; revert d; decide +kernel)
    refine recv_at ?_ rfl (by decide +kernel) rfl rfl
    exact ret_step (h _)
  refine seq (P' := iprop(St1 m ρ N c 4 58 35 ∗ R)) (fun Q' h => ?_) (fun _ => ?_)
  · rw [k0_part60_eq_skeleton]
    unfold k0_part60_skel
    refine send_at ?_ rfl rfl rfl rfl rfl (by generalize c = d; revert d; decide +kernel) (by generalize c = d; revert d; decide +kernel)
    refine recv_at ?_ rfl (by decide +kernel) rfl rfl
    exact ret_step (h _)
  exact ret_step (h _ _ _ _ _ _ _ _ _)

end Parts

end Cert.KernelIdealProof

end
-- ==== Proof.KernelIdealWhole.lean ====
/-
# The whole body

The last parts of the body, the sums over the chunks, the closing waits and the four stores of the result, and the body as a whole.
-/
module

public import proofs.«01_k».proof.Proof.KernelIdealBody

@[expose] public section

noncomputable section

namespace Cert.KernelIdealProof

open Cert.KernelIdeal Cert.KernelIdeal.Gen Cert.Gather

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable {m : (ℓ : Loc nD τ sig) → Buf (Elt F) ℓ} {ρ : Dev nD → PrngReg} {N : Dev nD × CI → ℕ}

section Parts

variable {c : Dev nD} {w t u : ℕ} {R : sProp (MT nD τ sig Unit (Elt F) ℕ UU ℕ)} {α : Type} {Q : α → sProp (MT nD τ sig Unit (Elt F) ℕ UU ℕ)}

/-! ## The sums, the closing waits and the results -/

/-- After the last arrival the closing waits are next. -/
theorem turn_at {X : sProp (MT nD τ sig Unit (Elt F) ℕ UU ℕ)} (h : iprop(St2 m ρ N c 0 ∗ R) ⊢ X) : iprop(St1 m ρ N c 4 60 60 ∗ R) ⊢ X := by
  iintro ⟨H, HR⟩
  iapply h
  isplitl [H]
  · iapply turn; iexact H
  iexact HR

theorem behind_eq (e : Fin 4) : (⟨(c.val + 4 - e.val) % 4, Nat.mod_lt _ (by decide)⟩ : Fin 4) = behind c e := rfl
theorem pay15_eq (d : FVec F S256x1 .f32) (x : Vec F S256x4096 .bf16) : k0_pay15 d x = k0_pay14 d x := rfl
theorem pay16_eq (d : FVec F S256x1 .f32) (x : Vec F S256x4096 .bf16) : k0_pay16 d x = k0_pay14 d x := rfl
theorem pay1_eq (d : FVec F S256x1 .f32) (x : Vec F S256x4096 .bf16) : k0_pay1 (k0_pay13 d) x = k0_pay14 d x := rfl
theorem off7_0 : ∀ c : Dev nD, k0_off7 c 0#32 = ![0, 4096 * ((c.val + 4 - 1) % 4)] := by decide +kernel
theorem off7_1 : ∀ c : Dev nD, k0_off7 c 1#32 = ![0, 4096 * ((c.val + 4 - 2) % 4)] := by decide +kernel
theorem off7_2 : ∀ c : Dev nD, k0_off7 c 2#32 = ![0, 4096 * ((c.val + 4 - 3) % 4)] := by decide +kernel
theorem off6_0 : ∀ c : Dev nD, k0_off6 c = ![0, 4096 * ((c.val + 4 - 0) % 4)] := by decide +kernel

set_option maxRecDepth 65536 in
set_option maxHeartbeats 4000000 in
theorem part83 {Q} (v2 v5 v8 v35 v38 v66 v67 v2035 z : BitVec 32)
    (h : iprop(St2 m ρ N c 60 ∗ Out m ρ c 3) ⊢ Q (k0_pay13 (den m ρ c))) :
    iprop(St1 m ρ N c 4 58 35 ∗ Out m ρ c 0) ⊢ WP c (k0_part83 xM (Memref.isWhole_whole _) wM (Memref.isWhole_whole _) oM (Memref.isWhole_whole _) gM (Memref.isWhole_whole _)
      cc0_scratch1 cc0_scratch2 cc0_scratch3 cc0_scratch4 cc0_scratch5 cc0_scratch6 cc0_scratch7 cc0_scratch8 cc0_scratch9 cc0_scratch10 c v2 v5 v8 v35 v38 v66 v67 v2035 z) Q := by
  rw [k0_part83_eq_skeleton]
  unfold k0_part83_skel
  refine seq (P' := iprop(St1 m ρ N c 4 59 35 ∗ Out m ρ c 0)) (fun Q' h => ?_) (fun _ => ?_)
  · rw [k0_part61_eq_skeleton]
    unfold k0_part61_skel
    refine send_at ?_ rfl rfl rfl rfl rfl (by generalize c = d; revert d; decide +kernel) (by generalize c = d; revert d; decide +kernel)
    exact ret_step (h _)
  refine bind_step ?_
  rw [k0_part62_eq_skeleton]
  unfold k0_part62_skel
  refine recv_at ?_ rfl (by decide +kernel) rfl rfl
  refine send_at ?_ rfl rfl rfl rfl rfl (by generalize c = d; revert d; decide +kernel) (by generalize c = d; revert d; decide +kernel)
  refine load_chunk (offF := fun c => k0_off6 c) 0 (own_chunk_K c _) off6_0 ?_
  refine ret_step ?_
  refine seq (P' := iprop(St1 m ρ N c 4 60 39 ∗ Out m ρ c 0)) (fun Q' h => ?_) (fun _ => ?_)
  · rw [k0_part63_eq_skeleton]
    unfold k0_part63_skel
    refine recv_at ?_ rfl (by decide +kernel) rfl rfl
    refine recv_at ?_ rfl (by decide +kernel) rfl rfl
    refine recv_at ?_ rfl (by decide +kernel) rfl rfl
    exact ret_step (h _)
  refine seq (P' := iprop(St1 m ρ N c 4 60 42 ∗ Out m ρ c 0)) (fun Q' h => ?_) (fun _ => ?_)
  · rw [k0_part64_eq_skeleton]
    unfold k0_part64_skel
    refine recv_at ?_ rfl (by decide +kernel) rfl rfl
    refine recv_at ?_ rfl (by decide +kernel) rfl rfl
    refine recv_at ?_ rfl (by decide +kernel) rfl rfl
    exact ret_step (h _)
  refine bind_step ?_
  rw [k0_part65_eq_skeleton]
  unfold k0_part65_skel
  refine recv_at ?_ rfl (by decide +kernel) rfl rfl
  refine recv_at ?_ rfl (by decide +kernel) rfl rfl
  refine load_chunk (offF := fun c => k0_off7 c 0#32) 1 (hop_chunk_K c 0) off7_0 ?_
  refine ret_step ?_
  refine bind_step ?_
  rw [k0_part66_eq_skeleton]
  unfold k0_part66_skel
  refine recv_at ?_ rfl (by decide +kernel) rfl rfl
  refine recv_at ?_ rfl (by decide +kernel) rfl rfl
  refine recv_at ?_ rfl (by decide +kernel) rfl rfl
  refine ret_step ?_
  refine seq (P' := iprop(St1 m ρ N c 4 60 50 ∗ Out m ρ c 0)) (fun Q' h => ?_) (fun _ => ?_)
  · rw [k0_part67_eq_skeleton]
    unfold k0_part67_skel
    refine recv_at ?_ rfl (by decide +kernel) rfl rfl
    refine recv_at ?_ rfl (by decide +kernel) rfl rfl
    refine recv_at ?_ rfl (by decide +kernel) rfl rfl
    exact ret_step (h _)
  refine bind_step ?_
  rw [k0_part68_eq_skeleton]
  unfold k0_part68_skel
  refine recv_at ?_ rfl (by decide +kernel) rfl rfl
  refine recv_at ?_ rfl (by decide +kernel) rfl rfl
  refine load_chunk (offF := fun c => k0_off7 c 1#32) 2 (hop_chunk_K c 1) off7_1 ?_
  refine ret_step ?_
  refine bind_step ?_
  rw [k0_part69_eq_skeleton]
  unfold k0_part69_skel
  refine recv_at ?_ rfl (by decide +kernel) rfl rfl
  refine recv_at ?_ rfl (by decide +kernel) rfl rfl
  refine recv_at ?_ rfl (by decide +kernel) rfl rfl
  refine ret_step ?_
  refine seq (P' := iprop(St1 m ρ N c 4 60 58 ∗ Out m ρ c 0)) (fun Q' h => ?_) (fun _ => ?_)
  · rw [k0_part70_eq_skeleton]
    unfold k0_part70_skel
    refine recv_at ?_ rfl (by decide +kernel) rfl rfl
    refine recv_at ?_ rfl (by decide +kernel) rfl rfl
    refine recv_at ?_ rfl (by decide +kernel) rfl rfl
    exact ret_step (h _)
  refine bind_step ?_
  rw [k0_part71_eq_skeleton]
  unfold k0_part71_skel
  refine recv_at ?_ rfl (by decide +kernel) rfl rfl
  refine recv_at ?_ rfl (by decide +kernel) rfl rfl
  refine load_chunk (offF := fun c => k0_off7 c 2#32) 3 (hop_chunk_K c 2) off7_2 ?_
  refine ret_step ?_
  refine turn_at ?_
  refine bind_step ?_
  rw [k0_part72_eq_skeleton]
  unfold k0_part72_skel
  refine back_at ?_ rfl rfl rfl
  refine back_at ?_ rfl rfl rfl
  refine back_at ?_ rfl rfl rfl
  refine back_at ?_ rfl rfl rfl
  refine back_at ?_ rfl rfl rfl
  refine ret_step ?_
  refine seq (P' := iprop(St2 m ρ N c 11 ∗ Out m ρ c 0)) (fun Q' h => ?_) (fun _ => ?_)
  · rw [k0_part73_eq_skeleton]
    unfold k0_part73_skel
    refine back_at ?_ rfl rfl rfl
    refine back_at ?_ rfl rfl rfl
    refine back_at ?_ rfl rfl rfl
    refine back_at ?_ rfl rfl rfl
    refine back_at ?_ rfl rfl rfl
    refine back_at ?_ rfl rfl rfl
    exact ret_step (h _)
  refine seq (P' := iprop(St2 m ρ N c 17 ∗ Out m ρ c 0)) (fun Q' h => ?_) (fun _ => ?_)
  · rw [k0_part74_eq_skeleton]
    unfold k0_part74_skel
    refine back_at ?_ rfl rfl rfl
    refine back_at ?_ rfl rfl rfl
    refine back_at ?_ rfl rfl rfl
    refine back_at ?_ rfl rfl rfl
    refine back_at ?_ rfl rfl rfl
    refine back_at ?_ rfl rfl rfl
    exact ret_step (h _)
  refine seq (P' := iprop(St2 m ρ N c 23 ∗ Out m ρ c 0)) (fun Q' h => ?_) (fun _ => ?_)
  · rw [k0_part75_eq_skeleton]
    unfold k0_part75_skel
    refine back_at ?_ rfl rfl rfl
    refine back_at ?_ rfl rfl rfl
    refine back_at ?_ rfl rfl rfl
    refine back_at ?_ rfl rfl rfl
    refine back_at ?_ rfl rfl rfl
    refine back_at ?_ rfl rfl rfl
    exact ret_step (h _)
  refine seq (P' := iprop(St2 m ρ N c 29 ∗ Out m ρ c 0)) (fun Q' h => ?_) (fun _ => ?_)
  · rw [k0_part76_eq_skeleton]
    unfold k0_part76_skel
    refine back_at ?_ rfl rfl rfl
    refine back_at ?_ rfl rfl rfl
    refine back_at ?_ rfl rfl rfl
    refine back_at ?_ rfl rfl rfl
    refine back_at ?_ rfl rfl rfl
    refine back_at ?_ rfl rfl rfl
    exact ret_step (h _)
  refine seq (P' := iprop(St2 m ρ N c 35 ∗ Out m ρ c 0)) (fun Q' h => ?_) (fun _ => ?_)
  · rw [k0_part77_eq_skeleton]
    unfold k0_part77_skel
    refine back_at ?_ rfl rfl rfl
    refine back_at ?_ rfl rfl rfl
    refine back_at ?_ rfl rfl rfl
    refine back_at ?_ rfl rfl rfl
    refine back_at ?_ rfl rfl rfl
    refine back_at ?_ rfl rfl rfl
    exact ret_step (h _)
  refine seq (P' := iprop(St2 m ρ N c 41 ∗ Out m ρ c 0)) (fun Q' h => ?_) (fun _ => ?_)
  · rw [k0_part78_eq_skeleton]
    unfold k0_part78_skel
    refine back_at ?_ rfl rfl rfl
    refine back_at ?_ rfl rfl rfl
    refine back_at ?_ rfl rfl rfl
    refine back_at ?_ rfl rfl rfl
    refine back_at ?_ rfl rfl rfl
    refine back_at ?_ rfl rfl rfl
    exact ret_step (h _)
  refine seq (P' := iprop(St2 m ρ N c 47 ∗ Out m ρ c 0)) (fun Q' h => ?_) (fun _ => ?_)
  · rw [k0_part79_eq_skeleton]
    unfold k0_part79_skel
    refine back_at ?_ rfl rfl rfl
    refine back_at ?_ rfl rfl rfl
    refine back_at ?_ rfl rfl rfl
    refine back_at ?_ rfl rfl rfl
    refine back_at ?_ rfl rfl rfl
    refine back_at ?_ rfl rfl rfl
    exact ret_step (h _)
  refine seq (P' := iprop(St2 m ρ N c 53 ∗ Out m ρ c 0)) (fun Q' h => ?_) (fun _ => ?_)
  · rw [k0_part80_eq_skeleton]
    unfold k0_part80_skel
    refine back_at ?_ rfl rfl rfl
    refine back_at ?_ rfl rfl rfl
    refine back_at ?_ rfl rfl rfl
    refine back_at ?_ rfl rfl rfl
    refine back_at ?_ rfl rfl rfl
    refine back_at ?_ rfl rfl rfl
    exact ret_step (h _)
  refine seq (P' := iprop(St2 m ρ N c 59 ∗ Out m ρ c 0)) (fun Q' h => ?_) (fun _ => ?_)
  · rw [k0_part81_eq_skeleton]
    unfold k0_part81_skel
    refine back_at ?_ rfl rfl rfl
    refine back_at ?_ rfl rfl rfl
    refine back_at ?_ rfl rfl rfl
    refine back_at ?_ rfl rfl rfl
    refine back_at ?_ rfl rfl rfl
    refine back_at ?_ rfl rfl rfl
    exact ret_step (h _)
  refine back_at ?_ rfl rfl rfl
  refine load_fin 0 rfl ?_
  refine load_out fun _ => ?_
  refine store_out 0 rfl rfl rfl ?_
  refine load_fin 1 rfl ?_
  refine load_out fun _ => ?_
  refine store_out 1 rfl rfl (pay15_eq _ _) ?_
  refine load_fin 2 rfl ?_
  refine load_out fun _ => ?_
  refine store_out 2 rfl rfl (pay16_eq _ _) ?_
  exact ret_step h

/-! ## The body -/

set_option maxRecDepth 65536 in
set_option maxHeartbeats 4000000 in
/-- The body takes the state before the signals to the one after the last wait, with the whole result written. -/
theorem body {Q : PUnit → sProp (MT nD τ sig Unit (Elt F) ℕ UU ℕ)} (h : iprop(St2 m ρ N c 60 ∗ Out m ρ c 4) ⊢ Q ⟨⟩) :
    iprop(St0 m ρ N c (O₀ c) 0 ∗ Out m ρ c 0) ⊢ WP c (cc0_body xM (Memref.isWhole_whole _) wM (Memref.isWhole_whole _) oM (Memref.isWhole_whole _) gM (Memref.isWhole_whole _)
      cc0_scratch1 cc0_scratch2 cc0_scratch3 cc0_scratch4 cc0_scratch5 cc0_scratch6 cc0_scratch7 cc0_scratch8 cc0_scratch9 cc0_scratch10) Q := by
  rw [cc0_body_eq_skeleton]
  unfold cc0_body_skel
  refine bind_step (part82 fun v2 v5 v8 v35 v38 v66 v67 v2035 z => ?_)
  refine bind_step (part83 _ _ _ _ _ _ _ _ _ ?_)
  refine load_fin 3 rfl ?_
  refine load_out fun _ => ?_
  refine store_out 3 rfl rfl (pay1_eq _ _) ?_
  exact ret_step h

end Parts

end Cert.KernelIdealProof

end
-- ==== Proof.KernelIdealLaunch.lean ====
/-
# The launch's proof data

What each device holds when its body starts and what it leaves when the body ends, and the body's obligation to the launch, which
the run (`KernelIdealRun`) then discharges on all devices at once.
-/
module

public import proofs.«01_k».proof.Proof.KernelIdealWhole

@[expose] public section

noncomputable section

namespace Cert.KernelIdealProof

open Cert.KernelIdeal Cert.KernelIdeal.Gen Cert.Gather

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable {m : (ℓ : Loc nD τ sig) → Buf (Elt F) ℓ} {ρ : Dev nD → PrngReg} {N : Dev nD × CI → ℕ}

variable (m ρ N)

/-! ## Products over a device's cells -/

omit [FloatOps F] in
theorem bigSep_CI (Φ : CI → sProp 𝕄) :
    bigSep Finset.univ Φ = iprop(Φ none ∗ (bigSep Finset.univ fun j => Φ (some (false, j))) ∗ bigSep Finset.univ fun j => Φ (some (true, j))) := by
  rw [bigSep_univ_at Φ none]
  have e : (Finset.univ.erase none : Finset CI) = Finset.univ.map Function.Embedding.some := by
    ext x; cases x <;> simp
  rw [e, bigSep_map, bigSep_univ_prod, bigSep_univ_eq_bigSepL [false, true] (by decide) (by decide)]
  rfl

omit [FloatOps F] in
/-- The semaphores of the transfers, send and receive. -/
theorem bigSep_dma (Φ : Bool × Tr → sProp 𝕄) :
    bigSep Finset.univ Φ = iprop((bigSep Finset.univ fun j => Φ (false, j)) ∗ bigSep Finset.univ fun j => Φ (true, j)) := by
  rw [bigSep_univ_prod, bigSep_univ_eq_bigSepL [false, true] (by decide) (by decide)]
  rfl

/-! ## The buffer split into rectangles -/

/-- The rectangles of a device's buffer: the slices it computes itself, and what the transfers write. -/
def piece (c : Dev nD) : Fin 4 ⊕ Tr → Finset G.Idx
  | .inl s => (own c s).cells
  | .inr j => (land c j).cells

theorem piece_all (c : Dev nD) : Finset.univ.biUnion (piece c) = Finset.univ := by
  refine Finset.eq_univ_iff_forall.mpr fun i => ?_
  have h : i ∈ K c 4 60 := by rw [K_univ]; exact Finset.mem_univ i
  rcases mem_K.mp h with ⟨s, -, hi⟩ | ⟨j, -, hi⟩
  · exact Finset.mem_biUnion.mpr ⟨.inl s, Finset.mem_univ _, hi⟩
  · exact Finset.mem_biUnion.mpr ⟨.inr j, Finset.mem_univ _, hi⟩

theorem piece_apart (c : Dev nD) (p p' : Fin 4 ⊕ Tr) (ne : p ≠ p') : Disjoint (piece c p) (piece c p') := by
  match p, p' with
  | .inl s, .inl s' => exact Box.disjoint_of_apart (own_apart c s s' fun e => ne (by rw [e]))
  | .inl s, .inr j => exact Box.disjoint_of_apart (own_apart_land c s j)
  | .inr j, .inl s => exact (Box.disjoint_of_apart (own_apart_land c s j)).symm
  | .inr j, .inr j' => exact Box.disjoint_of_apart (land_apart c j j' fun e => ne (by rw [e]))

omit [FloatOps F] in
/-- What a device hands its neighbours by its signals is what the transfers onto it write. -/
theorem signals_hand (c : Dev nD) :
    (bigSep Finset.univ fun j : Tr => Raw (F := F) c (land c j).cells) = bigSep Finset.univ fun d : Fin 4 => barPay (F := F) (peer d c) d := by
  have e (d : Fin 4) : barPay (F := F) (peer d c) d = bigSep Finset.univ fun j : Tr => if leave j.1 = d then Raw (F := F) c (land c j).cells else (BI.emp : sProp 𝕄) := by
    unfold barPay
    rw [bigSep_filter]
    refine bigSep_congr fun j _ => ?_
    by_cases h : leave j.1 = d
    · rw [if_pos h, if_pos h]
      subst h
      rw [peer_leave, tgt_org]
      rfl
    · rw [if_neg h, if_neg h]
  rw [bigSep_congr fun d _ => e d, bigSep_univ_comm]
  refine bigSep_congr fun j _ => ?_
  rw [bigSep_univ_at _ (leave j.1), if_pos rfl,
    bigSep_congr (Ψ := fun _ => (BI.emp : sProp 𝕄)) fun d hd => if_neg (Finset.ne_of_mem_erase hd).symm]
  rw [bigSep_emp_const]
  exact (BI.equiv_iff.mp BI.sep_emp).symm

omit [FloatOps F] in
theorem raw_intro (c : Dev nD) (S : Finset G.Idx) (f : Buf (Elt F) (gLoc c)) : (gLoc c ↦[S]{fullShare} f : sProp 𝕄) ⊢ Raw (F := F) c S := by
  unfold Raw
  iintro H; iexists f; iexact H

omit [FloatOps F] in
theorem split_buffer (c : Dev nD) :
    iprop(∃ f : Buf (Elt F) (gLoc c), gLoc c ↦{fullShare} f)
      ⊢ (iprop((bigSep Finset.univ fun s : Fin 4 => Raw (F := F) c (own c s).cells) ∗ bigSep Finset.univ fun d : Fin 4 => barPay (F := F) (peer d c) d) : sProp 𝕄) := by
  rw [← signals_hand]
  iintro ⟨%f, H⟩
  have e := pointsTo_biUnion (ℓ := gLoc c) (q := fullShare) (f := f) (Ix := Unit) (Name := ℕ) (U := UU) (Lvl := ℕ) Finset.univ (piece c)
    (fun p _ p' _ ne => piece_apart c p p' ne)
  rw [piece_all, bigSep_univ_sum] at e
  ihave H := (show (gLoc c ↦{fullShare} f : sProp 𝕄) ⊢ iprop((bigSep Finset.univ fun s : Fin 4 => (gLoc c ↦[piece c (.inl s)]{fullShare} f : sProp 𝕄))
      ∗ bigSep Finset.univ fun j : Tr => (gLoc c ↦[piece c (.inr j)]{fullShare} f : sProp 𝕄)) from Entails.of_eq e) $$ H
  icases H with ⟨H1, H2⟩
  isplitl [H1]
  · iapply (show (bigSep Finset.univ fun s : Fin 4 => (gLoc c ↦[piece c (.inl s)]{fullShare} f : sProp 𝕄)) ⊢ bigSep Finset.univ fun s : Fin 4 => Raw (F := F) c (own c s).cells from
      bigSep_mono fun s _ => raw_intro c _ f)
    iexact H1
  · iapply (show (bigSep Finset.univ fun j : Tr => (gLoc c ↦[piece c (.inr j)]{fullShare} f : sProp 𝕄)) ⊢ bigSep Finset.univ fun j : Tr => Raw (F := F) c (land c j).cells from
      bigSep_mono fun s _ => raw_intro c _ f)
    iexact H2

/-! ## The proof data of the launch -/

/-- What a device starts from, apart from its credit: what all know, its positions, and the tokens of the duties it pays. -/
def ghost (c : Dev nD) : sProp 𝕄 :=
  iprop(records m ρ N ∗ atPos ER (barCell c) 0 ∅ 0 ∗ (bigSep Finset.univ fun j : Tr => atPos ER (sendCell c j) 0 ∅ 0) ∗ (bigSep Finset.univ fun j : Tr => atPos ER (recvCell c j) 0 ∅ 0)
    ∗ (bigSep Finset.univ fun d : Fin 4 => dutyTok ER (barCell (peer d c)) 0 d) ∗ bigSep Finset.univ fun j : Tr => issueToks c j)

def start (c : Dev nD) : sProp 𝕄 :=
  iprop((∃ N, ghost m ρ N c) ∗ cred (tallyAt (barCell c) () 4) ∗ (bigSep Finset.univ fun j : Tr => cred (tallyAt (recvCell c j) () (amt j.1))) ∗ levAts L lv)

def Φ₀ (c : Dev nD) : sProp 𝕄 := iprop(start m ρ c ∗ ∃ f : Buf (Elt F) (gLoc c), gLoc c ↦{fullShare} f)
def Φ₁ (c : Dev nD) : sProp 𝕄 :=
  iprop((∃ f : Buf (Elt F) (gLoc c), gLoc c ↦{fullShare} f) ∗ semVal (barCell c) 0 ∗ (bigSep Finset.univ fun j : Tr => semVal (sendCell c j) 0) ∗ bigSep Finset.univ fun j : Tr => semVal (recvCell c j) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

omit [FloatOps F] in
theorem bigSep_W (Φ : Fin cfg0.W → sProp 𝕄) : bigSep Finset.univ Φ = iprop(Φ (0 : Fin 3) ∗ Φ (1 : Fin 3) ∗ Φ (2 : Fin 3)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-! ## The body's obligation -/

/-- Before the body: all that `body` starts from. -/
theorem enter (c : Dev nD) (W : Waits sig Unit) :
    iprop(ghost m ρ N c ∗ cred (tallyAt (barCell c) () 4) ∗ (bigSep Finset.univ fun j : Tr => cred (tallyAt (recvCell c j) () (amt j.1))) ∗ levAts L lv
        ∗ (∃ f : Buf (Elt F) (gLoc c), gLoc c ↦{fullShare} f) ∗ owes (c : Thread nD τ) (O₀ c) W ∗ Ins m ρ c)
      ⊢ St0 m ρ N c (O₀ c) 0 := by
  unfold ghost St0 Ctx
  iintro ⟨⟨#HR, HaB, HaS, HaV, HtB, HtI⟩, HcB, HcV, #Hlev, Hg, HO, HI⟩
  ihave Hg := (split_buffer (F := F) c) $$ Hg
  icases Hg with ⟨Hown, Hpay⟩
  isplitr
  · isplitl; · iexact HR
    iexact Hlev
  isplitl [HI]; · iexact HI
  isplitl [HaB HcB]
  · isplitl [HaB] <;> iassumption
  isplitl [Hown]; · iexact Hown
  isplitl [HtB Hpay]
  · rw [show (Finset.univ.filter fun d : Fin 4 => 0 ≤ d.val) = Finset.univ from Finset.filter_true_of_mem fun d _ => Nat.zero_le _]
    unfold toSignal
    rw [bigSep_sep']
    isplitl [HtB] <;> iassumption
  isplitl [HtI]; · iexact HtI
  isplitl [HaS]; · iexact HaS
  isplitl [HaV HcV]
  · unfold toRecv
    rw [bigSep_sep']
    isplitl [HaV] <;> iassumption
  iexists W; iexact HO

set_option maxRecDepth 8000 in
def bodyPre (c : Dev nD) : sProp 𝕄 :=
  iprop(Φ₀ m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
set_option maxRecDepth 8000 in
def bodyPost (c : Dev nD) : sProp 𝕄 :=
  iprop(Φ₁ c ∗ (dats m ρ 0 c).owesAt () t0_0.succ ∗ stg c cc0_stg0_0 (xstg m ρ c) ∗ stg c cc0_stg1_0 (wstg m ρ c) ∗ stg c cc0_stg2_0 (outAt m ρ c))

/-- After the body: the buffer whole again, the counters at zero, nothing owed, the result complete. -/
theorem leave_body (c : Dev nD) : iprop(St2 m ρ N c 60 ∗ Out m ρ c 4) ⊢ bodyPost m ρ c := by
  unfold St2 Out bodyPost Φ₁ Ins
  rw [Held_all m ρ c (Fl := Fly c ordW 60 60) fun d => Fly_zero c ordW 60 d,
    show (Finset.univ.filter fun j : Tr => ordW j < 60) = Finset.univ from Finset.filter_true_of_mem fun j _ => ordW_lt j]
  iintro ⟨⟨-, ⟨Hx, Hw⟩, HB, HH, -, HS, HV, ⟨%W, HO⟩⟩, ⟨%f, %hf, Ho⟩⟩
  have hf' : f = outAt m ρ c := funext fun i => hf i (by have h : (i 1).val < 16384 := (i 1).isLt; omega)
  isplitl [HH HB HS HV]
  · isplitl [HH]
    · iexists (Gfin m ρ c); unfold Pts; iexact HH
    isplitl [HB]; · iexact HB
    isplitl [HS] <;> iassumption
  isplitl [HO]
  · unfold Dat.owesAt Pipeline.owesWithin
    rw [show (dats m ρ 0 c).owed t0_0.succ = 0 from rfl]
    iexists W
    isplitr
    · ipureintro; exact fun _ _ => Or.inl trivial
    iexact HO
  isplitl [Hx]
  · iexists (xstg m ρ c); isplitr; · ipureintro; rfl
    iexact Hx
  isplitl [Hw]
  · iexists (wstg m ρ c); isplitr; · ipureintro; rfl
    iexact Hw
  iexists f; isplitr; · ipureintro; exact hf'
  iexact Ho

set_option maxRecDepth 65536 in
theorem body_obligation (c : Dev nD) : BodyObligation (dats (F := F) m ρ 0 c) (defs₀ (F := F)) 𝒱₀ () Set.univ := fun t => by
  rw [fin_N0 t]
  rw [bigSep_W, bigSep_W]
  simp only [owns_whole_eq]
  show bodyPre m ρ c ⊢ WP c (cc0_body xM (Memref.isWhole_whole _) wM (Memref.isWhole_whole _) oM (Memref.isWhole_whole _) gM (Memref.isWhole_whole _)
      cc0_scratch1 cc0_scratch2 cc0_scratch3 cc0_scratch4 cc0_scratch5 cc0_scratch6 cc0_scratch7 cc0_scratch8 cc0_scratch9 cc0_scratch10) (fun _ => bodyPost m ρ c)
  unfold bodyPre Φ₀ start
  iintro ⟨⟨⟨⟨%N, Hg⟩, HcB, HcV, Hlev⟩, Hbuf⟩, Ho, ⟨%d0, %g0, %hg0, Hx⟩, ⟨%d1, %g1, %hg1, Hw⟩, ⟨%d2, %g2, %hg2, Hout⟩⟩
  have hx : g0 = xstg m ρ c := by rw [hg0]; unfold Dat.before; rw [if_pos (fetch0_0 t0_0)]; rfl
  have hw : g1 = wstg m ρ c := by rw [hg1]; unfold Dat.before; rw [if_pos (fetch0_1 t0_0)]; rfl
  subst hx hw
  unfold Dat.owesAt Pipeline.owesWithin
  icases Ho with ⟨%W, %hW, HO⟩
  rw [show (dats m ρ 0 c).owed t0_0.castSucc = O₀ c from rfl]
  iapply (body (m := m) (ρ := ρ) (N := N) (c := c) (Q := fun _ => bodyPost m ρ c) (leave_body m ρ N c))
  isplitr [Hout]
  · iapply (enter m ρ N c W)
    isplitl [Hg]; · iexact Hg
    isplitl [HcB]; · iexact HcB
    isplitl [HcV]; · iexact HcV
    isplitl [Hlev]; · iexact Hlev
    isplitl [Hbuf]; · iexact Hbuf
    isplitl [HO]; · iexact HO
    unfold Ins
    isplitl [Hx] <;> iassumption
  · unfold Out
    iexists g2
    isplitr
    · ipureintro; exact fun i h => absurd h (by omega)
    iexact Hout

end Cert.KernelIdealProof

end
-- ==== Proof.KernelIdealRun.lean ====
/-
# The run

The launch of the kernel on all devices: the semaphores' cells are set up with their schedule, and the tokens dealt to the devices
that use them. Every execution ends, with the inputs unchanged, every semaphore at zero and `outAt` in the result array.
-/
module

public import proofs.«01_k».proof.Proof.KernelIdealLaunch
public import Idealize.ShloMosaic.Lib.Quiescent
public import Idealize.ShloMosaic.Lib.Pipeline.CollectiveSegs

@[expose] public section

noncomputable section

namespace Cert.KernelIdealProof

open Cert.KernelIdeal Cert.KernelIdeal.Gen Cert.Gather

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable {m : (ℓ : Loc nD τ sig) → Buf (Elt F) ℓ} {ρ : Dev nD → PrngReg} {N : Dev nD × CI → ℕ}

variable (m ρ N)

/-! ## The cells and their tokens -/

theorem dsem_inj {b b' : Bool} {j j' : Tr} (h : dsem b j = dsem b' j') : b = b' ∧ j = j' :=
  ⟨by rw [← decB_dsem b j, h, decB_dsem], by rw [← decK_dsem b j, h, decK_dsem]⟩

/-- The kernel's own semaphores: one send and one receive semaphore for each transfer. -/
abbrev osem (bj : Bool × Tr) : SemLoc sig := .dma (dsem bj.1 bj.2)

theorem ownSemFacts : Pipeline.OwnSemFacts cfg0.spec osem := by decide +kernel

theorem csem_injective : Function.Injective csem := by
  rintro (_ | ⟨b, j⟩) (_ | ⟨b', j'⟩) h
  · rfl
  · cases h
  · cases h
  · obtain ⟨rfl, rfl⟩ := dsem_inj (SemLoc.dma.inj h); rfl

theorem kcell_injective : Function.Injective (kcell : Dev nD × CI → GSem nD τ sig) := by
  rintro ⟨c, k⟩ ⟨c', k'⟩ h
  have h1 : c = c' := congrArg (fun g : GSem nD τ sig => g.1.1) h
  have h2 : k = k' := csem_injective (congrArg Prod.snd h)
  rw [h1, h2]

def exchCells : Finset (GSem nD τ sig) := Finset.univ.map ⟨kcell, kcell_injective⟩

/-- The duties of a device's own cells: the four signals at its barrier, and one at each transfer's semaphores. -/
def duty : Fin 4 ⊕ (Bool × Tr) → SemLoc sig × ℕ × Fin 4
  | .inl d => (.reg barS, 0, d)
  | .inr bj => (osem bj, 0, 0)

theorem duty_injective : Function.Injective duty := by
  rintro (d | ⟨b, j⟩) (d' | ⟨b', j'⟩) h
  · exact congrArg Sum.inl (congrArg (fun x : SemLoc sig × ℕ × Fin 4 => x.2.2) h)
  · cases congrArg Prod.fst h
  · cases congrArg Prod.fst h
  · obtain ⟨rfl, rfl⟩ := dsem_inj (SemLoc.dma.inj (congrArg Prod.fst h)); rfl

def tokOf (cd : Dev nD × (Fin 4 ⊕ (Bool × Tr))) : GSem nD τ sig × ℕ × Fin 4 :=
  (((cd.1 : Thread nD τ), (duty cd.2).1), (duty cd.2).2)

theorem tokOf_injective : Function.Injective tokOf := by
  rintro ⟨c, k⟩ ⟨c', k'⟩ h
  have h1 : c = c' := congrArg (fun x : GSem nD τ sig × ℕ × Fin 4 => x.1.1.1) h
  have h2 : k = k' := duty_injective (congrArg (fun x : GSem nD τ sig × ℕ × Fin 4 => (x.1.2, x.2)) h)
  rw [h1, h2]

def exchToks : Finset (GSem nD τ sig × ℕ × Fin 4) := Finset.univ.map ⟨tokOf, tokOf_injective⟩

def u₀ : UU :=
  (initOf (Pipeline.cells cfgs cellOf_inj) (Pipeline.launchToks cfgs cellOf_inj), initOf exchCells exchToks)

/-- The duty tokens of device `c`'s own cells. -/
def ownToks (c : Dev nD) : sProp 𝕄 :=
  iprop((bigSep Finset.univ fun d : Fin 4 => dutyTok ER (barCell c) 0 d) ∗ (bigSep Finset.univ fun j : Tr => dutyTok ER (sendCell c j) 0 0) ∗ bigSep Finset.univ fun j : Tr => dutyTok ER (recvCell c j) 0 0)

/-- The duty tokens that device `c` pays with. -/
def payToks (c : Dev nD) : sProp 𝕄 :=
  iprop((bigSep Finset.univ fun d : Fin 4 => dutyTok ER (barCell (peer d c)) 0 d) ∗ bigSep Finset.univ fun j : Tr => issueToks c j)

/-- What the launch deals device `c`. -/
def dealt (c : Dev nD) : sProp 𝕄 :=
  iprop((bigSep Finset.univ fun k : CI => roundState ER (rd m ρ) (kcell (c, k)) 0)
    ∗ (bigSep Finset.univ fun k : CI => iprop(atPos ER (kcell (c, k)) 0 ∅ 0 ∗ reached ER (kcell (c, k)) 0)) ∗ ownToks c)

/-- What the exchange of tokens makes of it. -/
def ready (c : Dev nD) : sProp 𝕄 := iprop(∃ N, ghost m ρ N c)

theorem fund : BI.own (ER (initOf exchCells exchToks)) ⊢ (|==> bigSep Finset.univ (dealt m ρ) : sProp 𝕄) := by
  have hX (Φ : GSem nD τ sig → sProp 𝕄) : bigSep exchCells Φ = bigSep Finset.univ fun c : Dev nD => bigSep Finset.univ fun k : CI => Φ (kcell (c, k)) := by
    unfold exchCells; rw [bigSep_map, bigSep_univ_prod]; rfl
  have hT : bigSep exchToks (fun x => (dutyTok ER x.1 x.2.1 x.2.2 : sProp 𝕄)) = bigSep Finset.univ fun c : Dev nD => ownToks c := by
    unfold exchToks; rw [bigSep_map, bigSep_univ_prod]
    exact bigSep_congr fun c _ => by unfold ownToks; rw [bigSep_univ_sum, bigSep_dma]; rfl
  iintro HX
  imod (Rounds.fund ER (rd m ρ) exchCells exchToks) $$ HX with ⟨Hst, Hr, Hat, Htok⟩
  imodintro
  ihave Hst' := (Entails.of_eq (hX fun g => roundState ER (rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold dealt; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := Unit) (Name := ℕ) (U := UU) (Lvl := ℕ) (Val := Elt F) (τ := τ) osem c : sProp 𝕄)
    = iprop((bigSep Finset.univ fun j : Tr => semVal (sendCell c j) 0) ∗ bigSep Finset.univ fun j : Tr => semVal (recvCell c j) 0) := by
  unfold Pipeline.ownSems0; rw [bigSep_dma]

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CI => semVal (kcell (c, k)) 0 : sProp 𝕄) := by
  rw [ownSems0_eq, unscopedSems0_eq, bigSep_CI]
  iintro ⟨⟨HS, HV⟩, HB⟩
  isplitl [HB]; · iexact HB
  isplitl [HS]; · iexact HS
  iexact HV

theorem core_alloc (c : Dev nD) :
    iprop(Pipeline.ownSems0 (Ix := Unit) (Name := ℕ) (U := UU) (Lvl := ℕ) (Val := Elt F) (τ := τ) osem c ∗ unscopedSems0 c ∗ dealt m ρ c)
      ⊢ |={Set.univ}=> iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ ownToks c) := by
  unfold dealt
  iintro ⟨Hos, Hus, Hst, Hat, Htok⟩
  ihave Hv := (sems0_eq (F := F) c) $$ [Hos Hus]
  · isplitl [Hos] <;> iassumption
  imod (show iprop((bigSep Finset.univ fun k : CI => semVal (kcell (c, k)) 0) ∗ bigSep Finset.univ fun k : CI => roundState ER (rd m ρ) (kcell (c, k)) 0)
      ⊢ (|={Set.univ}=> bigSep Finset.univ fun k => iprop(∃ κ : ℕ, cellInv ER (rd m ρ) κ (kcell (c, k))) : sProp 𝕄) from by
        rw [← bigSep_sep']
        exact (bigSep_mono fun k _ => (Rounds.body_intro ER (rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt around -/

/-- Signals go round the devices one to one, -/
def peerE (d : Fin 4) : Dev nD ≃ Dev nD := ⟨peer d, payer d, fun c => payer_peer d c, fun c => peer_payer d c⟩
/-- and so do transfers. -/
def tgtE (k : Fin 5) : Dev nD ≃ Dev nD := ⟨tgt k, org k, fun c => org_tgt k c, fun c => tgt_org k c⟩

omit [FloatOps F] in
theorem around_bar : (bigSep Finset.univ fun c : Dev nD => bigSep Finset.univ fun d : Fin 4 => (dutyTok ER (barCell c) 0 d : sProp 𝕄))
    = bigSep Finset.univ fun c : Dev nD => bigSep Finset.univ fun d : Fin 4 => dutyTok ER (barCell (peer d c)) 0 d := by
  rw [bigSep_univ_comm, bigSep_univ_comm (fun (c : Dev nD) (d : Fin 4) => (dutyTok ER (barCell (peer d c)) 0 d : sProp 𝕄))]
  exact bigSep_congr fun d _ => bigSep_univ_equiv (peerE d) _

omit [FloatOps F] in
theorem around_recv : (bigSep Finset.univ fun c : Dev nD => bigSep Finset.univ fun j : Tr => (dutyTok ER (recvCell c j) 0 0 : sProp 𝕄))
    = bigSep Finset.univ fun c : Dev nD => bigSep Finset.univ fun j : Tr => dutyTok ER (recvCell (tgt j.1 c) j) 0 0 := by
  rw [bigSep_univ_comm, bigSep_univ_comm (fun (c : Dev nD) (j : Tr) => (dutyTok ER (recvCell (tgt j.1 c) j) 0 0 : sProp 𝕄))]
  exact bigSep_congr fun j _ => bigSep_univ_equiv (tgtE j.1) _

omit [FloatOps F] in
theorem toks_around : (bigSep Finset.univ fun c : Dev nD => (ownToks c : sProp 𝕄)) ⊢ bigSep Finset.univ fun c : Dev nD => payToks c := by
  unfold ownToks payToks issueToks
  simp only [bigSep_sep']
  rw [around_bar, around_recv]

def linear (c : Dev nD) : sProp 𝕄 := iprop((bigSep Finset.univ fun k : CI => atPos ER (kcell (c, k)) 0 ∅ 0) ∗ payToks c)

theorem ghost_intro (N : Dev nD × CI → ℕ) (c : Dev nD) : iprop(records m ρ N ∗ linear c) ⊢ ready m ρ c := by
  unfold linear payToks ready ghost
  rw [bigSep_CI]
  iintro ⟨HR, ⟨HaB, HaS, HaV⟩, HtB, HtI⟩
  iexists N
  isplitl [HR]; · iexact HR
  isplitl [HaB]; · iexact HaB
  isplitl [HaS]; · iexact HaS
  isplitl [HaV]; · iexact HaV
  isplitl [HtB] <;> iassumption

theorem regroup :
    (bigSep Finset.univ fun c : Dev nD => iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ ownToks c) : sProp 𝕄)
      ⊢ bigSep Finset.univ (ready m ρ) := by
  rw [bigSep_sep', bigSep_sep', ← bigSep_univ_prod (fun ck : Dev nD × CI => iprop(∃ κ : ℕ, cellInv ER (rd m ρ) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄))]
  iintro ⟨HI, ⟨Hat, #HR⟩, Htok⟩
  ihave HK := (BI.bigSep_exists_pi Finset.univ (fun (ck : Dev nD × CI) (κ : ℕ) => (cellInv ER (rd m ρ) κ (kcell ck) : sProp 𝕄))) $$ HI
  icases HK with ⟨%N, #HI⟩
  ihave Htk := (toks_around (F := F)) $$ Htok
  iapply (BI.bigSep_with_persistent (R := records m ρ N) fun c _ => ghost_intro m ρ N c)
  isplitr
  · unfold records; isplitl; · iexact HI
    iexact HR
  · unfold linear
    rw [bigSep_sep']
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ dealt m ρ c) : sProp 𝕄)
    ⊢ |={Set.univ}=> bigSep Finset.univ (ready m ρ) :=
  ((bigSep_mono fun c _ => core_alloc m ρ c).trans (bigSep_fupd _ _)).trans (BI.fupd_mono (regroup m ρ))

/-! ## The credit of the launch -/

theorem bar_eq_iff {a b : Dev nD} : Iff (barCell a = barCell b) (a = b) :=
  ⟨fun h => congrArg (fun g : GSem nD τ sig => g.1.1) h, fun h => h ▸ rfl⟩
theorem recv_eq_iff {a b : Dev nD} {j j' : Tr} : Iff (recvCell a j = recvCell b j') (a = b ∧ j = j') :=
  ⟨fun h => ⟨congrArg (fun g : GSem nD τ sig => g.1.1) h, (dsem_inj (SemLoc.dma.inj (congrArg Prod.snd h))).2⟩, fun h => by rw [h.1, h.2]⟩

theorem sigT_bar (d c : Dev nD) (k : Fin 4) : sigT d k (barCell c) () = if d = payer k c then 1 else 0 := by
  unfold sigT
  rw [tallyAt_apply]
  refine if_congr ⟨fun h => ?_, fun h => ?_⟩ rfl rfl
  · rw [bar_eq_iff.mp h.1, payer_peer]
  · rw [h, peer_payer]; exact ⟨rfl, rfl⟩

theorem sigT_recv (d c : Dev nD) (k : Fin 4) (j : Tr) : sigT d k (recvCell c j) () = 0 := by
  unfold sigT
  rw [tallyAt_apply, if_neg]
  rintro ⟨h, -⟩
  cases congrArg Prod.snd h

theorem owed_bar (d c : Dev nD) : owed d 0 (barCell c) () = 0 := by
  by_contra h
  obtain ⟨j, -, e⟩ := owed_pos (Nat.pos_of_ne_zero h)
  cases congrArg Prod.snd e

theorem owed_recv (d c : Dev nD) (j : Tr) : owed d 0 (recvCell c j) () = if d = org j.1 c then amt j.1 else 0 := by
  unfold owed
  rw [Finset.sum_apply, Finsupp.finset_sum_apply, Finset.filter_true_of_mem fun _ _ => Nat.zero_le _,
    Finset.sum_eq_single j (fun j' _ ne => by rw [tallyAt_apply, if_neg]; exact fun h => ne (recv_eq_iff.mp h.1).2.symm)
      (fun h => absurd (Finset.mem_univ j) h), tallyAt_apply]
  refine if_congr ⟨fun h => ?_, fun h => ?_⟩ rfl rfl
  · rw [(recv_eq_iff.mp h.1).1, org_tgt]
  · rw [h, tgt_org]; exact ⟨rfl, rfl⟩

theorem start_bar (d c : Dev nD) : O₀ d (barCell c) () = (if d = payer 3 c then 1 else 0) + (if d = payer 2 c then 1 else 0) + (if d = payer 1 c then 1 else 0) + (if d = payer 0 c then 1 else 0) := by
  unfold O₀
  simp only [Pi.add_apply, Finsupp.add_apply]
  rw [owed_bar, sigT_bar, sigT_bar, sigT_bar, sigT_bar, Nat.zero_add]

theorem start_recv (d c : Dev nD) (j : Tr) : O₀ d (recvCell c j) () = if d = org j.1 c then amt j.1 else 0 := by
  unfold O₀
  simp only [Pi.add_apply, Finsupp.add_apply]
  rw [owed_recv, sigT_recv, sigT_recv, sigT_recv, sigT_recv]
  rfl

theorem launch_bar (c : Dev nD) :
    tallyOn (barCell c) (launchCredit (Pipeline.owing O₀) 0 (barCell c)) = (tallyAt (barCell c) () 4 : CellTallies nD τ sig Unit) := by
  unfold tallyAt; refine congrArg _ (Finsupp.ext fun u => ?_); cases u
  rw [Pipeline.launchCredit_owing, Finsupp.single_eq_same, Finset.sum_congr rfl fun d _ => start_bar d c]
  simp only [Finset.sum_add_distrib, Finset.sum_ite_eq', Finset.mem_univ, if_true]

theorem launch_recv (c : Dev nD) (j : Tr) :
    tallyOn (recvCell c j) (launchCredit (Pipeline.owing O₀) 0 (recvCell c j)) = (tallyAt (recvCell c j) () (amt j.1) : CellTallies nD τ sig Unit) := by
  unfold tallyAt; refine congrArg _ (Finsupp.ext fun u => ?_); cases u
  rw [Pipeline.launchCredit_owing, Finsupp.single_eq_same, Finset.sum_congr rfl fun d _ => start_recv d c j]
  simp only [Finset.sum_ite_eq', Finset.mem_univ, if_true]

/-- The receive semaphores among all. -/
def recvE : Tr ↪ SemLoc sig := ⟨fun j => .dma (dsem true j), fun _ _ h => (dsem_inj (SemLoc.dma.inj h)).2⟩

omit [FloatOps F] in
theorem creds (c : Dev nD) :
    (Pipeline.launchCred O₀ c : sProp 𝕄) ⊢ iprop(cred (tallyAt (barCell c) () 4) ∗ bigSep Finset.univ fun j : Tr => cred (tallyAt (recvCell c j) () (amt j.1))) := by
  unfold Pipeline.launchCred
  rw [bigSep_univ_at _ (SemLoc.reg barS), launch_bar]
  refine sep_mono_right ?_
  have hs : Finset.univ.map recvE ⊆ Finset.univ.erase (SemLoc.reg barS) := by
    intro s hs
    obtain ⟨j, -, rfl⟩ := Finset.mem_map.mp hs
    exact Finset.mem_erase.mpr ⟨(fun h => by cases h), Finset.mem_univ _⟩
  rw [BI.bigSep_sdiff_split hs, bigSep_map]
  refine (show iprop(_ ∗ _) ⊢ _ from by iintro ⟨H, -⟩; iexact H).trans (Entails.of_eq (bigSep_congr fun j _ => ?_))
  rw [← launch_recv]
  rfl

/-! ## The theorem's side conditions -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ready m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start ready
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁
  iintro ⟨Hr, HzB, HzS, HzV⟩
  isplitl [HzB]; · iexact HzB
  isplitl [HzS HzV]
  · isplitl [HzS] <;> iassumption
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def Ends : PUnit × MemSt nD τ sig (Elt F) → Prop := fun r =>
  ∀ c : Dev nD, ∀ w : Fin cfg0.W, r.2.mem ((cfg0.win w).arr.view.loc (c : Thread nD τ)) = finalA m ρ c w

set_option maxRecDepth 65536 in
/-- From any memory with the counters at zero every execution of the kernel on the sixteen devices ends, with each array at the
    computed contents and every semaphore at zero. -/
theorem run_main : θ_run defs (onTc (τ := τ) (main (F := F))) (s₀ m ρ) (fun r => Ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := dealt m ρ) (G' := ready m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem finalA_x (c : Dev nD) : finalA m ρ c (0 : Fin 3) = (s₀ m ρ).mem (win0_0.arr.view.loc (c : Thread nD τ)) :=
  (dats (F := F) m ρ 0 c).arrAt_in (0 : Fin 3) rfl _
theorem finalA_W (c : Dev nD) : finalA m ρ c (1 : Fin 3) = (s₀ m ρ).mem (win0_1.arr.view.loc (c : Thread nD τ)) :=
  (dats (F := F) m ρ 0 c).arrAt_in (1 : Fin 3) rfl _

/-- The result array after the run is what the body left in its staging buffer. -/
theorem finalA_out (c : Dev nD) : (win0_2.blk (0 : Fin 1)).view.read (Elt F) (finalA m ρ c (2 : Fin 3)) = outAt m ρ c := by
  unfold finalA
  rw [show cfg0.N = ((0 : Fin 1) : Fin cfg0.N).val + 1 from rfl, (dats m ρ 0 c).arrAt_succ (2 : Fin 3) (0 : Fin 1)]
  rw [show (cfg0.win (2 : Fin 3)).flush (0 : Fin 1) = true from flush0_2 t0_0, if_pos rfl]
  exact View.read_write_univ _ _

theorem read_x (f : main_arg0.ty.Contents (Elt F)) : (win0_0.blk (0 : Fin 1)).view.read (Elt F) f = f :=
  Memref.read_access_unit_zero (Elt F) main_arg0 (funext fun a => by fin_cases a <;> decide) (fun a => by fin_cases a <;> decide) f
theorem read_W (f : main_arg1.ty.Contents (Elt F)) : (win0_1.blk (0 : Fin 1)).view.read (Elt F) f = f :=
  Memref.read_access_unit_zero (Elt F) main_arg1 (funext fun a => by fin_cases a <;> decide) (fun a => by fin_cases a <;> decide) f
theorem read_out (f : main_v1.ty.Contents (Elt F)) : (win0_2.blk (0 : Fin 1)).view.read (Elt F) f = f :=
  Memref.read_access_unit_zero (Elt F) main_v1 (funext fun a => by fin_cases a <;> decide) (fun a => by fin_cases a <;> decide) f

/-- The run as the claims state it: both inputs unchanged, `outAt` in the result, every semaphore at zero. -/
theorem run_values : θ_run defs (onTc (τ := τ) (main (F := F))) (s₀ m ρ) (fun r =>
    (∀ c : Dev nD, r.2.mem ((c.tc : Thread nD τ).loc main_v1) = outAt m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => ⟨(h.1 c (2 : Fin 3)).trans ((read_out _).symm.trans (finalA_out m ρ c)),
    (h.1 c (0 : Fin 3)).trans (finalA_x m ρ c), (h.1 c (1 : Fin 3)).trans (finalA_W m ρ c)⟩, h.2⟩) (run_main m ρ)

theorem xstg_eq (c : Dev nD) : xstg m ρ c = m ((c.tc : Thread nD τ).loc main_arg0) := read_x _
theorem wstg_eq (c : Dev nD) : wstg m ρ c = m ((c.tc : Thread nD τ).loc main_arg1) := read_W _

end Cert.KernelIdealProof

end
-- ==== Proof.Softmax.lean ====
/-
# The softmax over the extended reals

A row of real logits: subtracting the largest before exponentiating changes no quotient.
-/
module

public import Idealize.ShloMosaic.PureOps.Ideal.Laws

@[expose] public section

noncomputable section

namespace Cert.Softmax

open Idealize.ShloMosaic

/-- Neither infinity. -/
def IsReal (a : EReal) : Prop := a ≠ ⊥ ∧ a ≠ ⊤

theorem IsReal.mul {a b : EReal} (ha : IsReal a) (hb : IsReal b) : IsReal (a * b) := by
  lift a to ℝ using ⟨ha.2, ha.1⟩
  lift b to ℝ using ⟨hb.2, hb.1⟩
  rw [← EReal.coe_mul]
  exact ⟨EReal.coe_ne_bot _, EReal.coe_ne_top _⟩

theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A family of reals is one of real numbers. -/
theorem exists_reals {ι : Type} (f : ι → EReal) (h : ∀ i, IsReal (f i)) : ∃ g : ι → ℝ, f = fun i => (g i : EReal) :=
  ⟨fun i => (f i).toReal, funext fun i => (EReal.coe_toReal (h i).2 (h i).1).symm⟩

theorem IsReal.sum {ι : Type} (s : Finset ι) (f : ι → EReal) (h : ∀ i, IsReal (f i)) : IsReal (∑ i ∈ s, f i) := by
  obtain ⟨g, rfl⟩ := exists_reals f h
  rw [coe_sum]
  exact ⟨EReal.coe_ne_bot _, EReal.coe_ne_top _⟩

/-- The largest of finitely many reals, at least one, is a real. -/
theorem IsReal.peak {n : ℕ} (hn : 0 < n) (b : EReal) (hb : b ≠ ⊤) (f : Fin n → EReal) (h : ∀ i, IsReal (f i)) : IsReal (Finset.univ.fold max b f) := by
  constructor
  · refine ne_of_gt (lt_of_lt_of_le (bot_lt_iff_ne_bot.mpr (h ⟨0, hn⟩).1) ?_)
    exact (Finset.le_fold_max (f ⟨0, hn⟩)).mpr (Or.inr ⟨⟨0, hn⟩, Finset.mem_univ _, le_refl _⟩)
  · exact ne_of_lt ((Finset.fold_max_lt ⊤).mpr ⟨lt_top_iff_ne_top.mpr hb, fun i _ => lt_top_iff_ne_top.mpr (h i).2⟩)

/-- The quotient of exponentials does not change when one real is subtracted from all logits. -/
theorem quotient_shift {n : ℕ} (hn : 0 < n) (l : Fin n → EReal) (hl : ∀ i, IsReal (l i)) (M : EReal) (hM : IsReal M) (k : Fin n) :
    Ideal.exp (l k) * Ideal.div 1 (∑ i, Ideal.exp (l i)) = Ideal.div (Ideal.exp (l k - M)) (∑ i, Ideal.exp (l i - M)) := by
  obtain ⟨g, rfl⟩ := exists_reals l hl
  lift M to ℝ using ⟨hM.2, hM.1⟩
  have hpos (s : ℝ) : 0 < ∑ i, Real.exp (g i - s) :=
    Finset.sum_pos (fun i _ => Real.exp_pos _) ⟨⟨0, hn⟩, Finset.mem_univ _⟩
  have h0 : 0 < ∑ i, Real.exp (g i) := by simpa using hpos 0
  have e : ∑ i, Real.exp (g i - M) = (∑ i, Real.exp (g i)) * Real.exp (-M) := by
    rw [Finset.sum_mul]
    exact Finset.sum_congr rfl fun i _ => by rw [sub_eq_add_neg, Real.exp_add]
  simp only [← EReal.coe_sub, Ideal.exp_coe]
  rw [coe_sum, coe_sum, Ideal.div_coe h0.ne', Ideal.div_coe (hpos M).ne', one_mul, ← EReal.coe_mul, ← EReal.coe_mul, e]
  refine congrArg _ ?_
  rw [sub_eq_add_neg, Real.exp_add]
  have := Real.exp_pos (-M)
  field_simp

end Cert.Softmax

end
-- ==== Proof.ReferenceValue.lean ====
/-
# What the reference computes

Every entry of the reference's result, as a softmax of the products of `x`'s rows with `W`'s columns.
-/
module

public import proofs.«01_k».proof.Proof.Gen.ReferenceIdeal.Run
public import proofs.«01_k».proof.Proof.Softmax
public import Idealize.ShloMosaic.Lib.Pointwise

@[expose] public section

noncomputable section

namespace Cert.Softmax

open Idealize.ShloMosaic

/-- The product of row `r` of `x` with column `k` of `W`. -/
def logit (x : (⟨2, ![256, 512]⟩ : Shape).Idx → EReal) (W : (⟨2, ![512, 16384]⟩ : Shape).Idx → EReal) (r : Fin 256) (k : Fin 16384) : EReal :=
  ∑ i : Fin 512, x (ix2 r i) * W (ix2 i k)

/-- The softmax of row `r` at column `k`: the exponential times the reciprocal of the sum of the row's exponentials. -/
def softmax (x : (⟨2, ![256, 512]⟩ : Shape).Idx → EReal) (W : (⟨2, ![512, 16384]⟩ : Shape).Idx → EReal) (r : Fin 256) (k : Fin 16384) : EReal :=
  Ideal.exp (logit x W r k) * Ideal.div 1 (∑ i : Fin 16384, Ideal.exp (logit x W r i))

theorem logit_real {x : (⟨2, ![256, 512]⟩ : Shape).Idx → EReal} {W : (⟨2, ![512, 16384]⟩ : Shape).Idx → EReal} (hx : ∀ i, IsReal (x i)) (hW : ∀ i, IsReal (W i)) (r : Fin 256) (k : Fin 16384) :
    IsReal (logit x W r k) := IsReal.sum _ _ fun _ => (hx _).mul (hW _)

open Cert.ReferenceIdeal Cert.ReferenceIdeal.Gen

/-- The reference's result as its operations compose it. -/
def composed (x : FVec Ideal S256x512 .f32) (W : FVec Ideal S512x16384 .f32) : FVec Ideal S256x16384 .f32 :=
  have l := Host.dotGeneral dot_S256x512_S512x16384_S256x16384_1_0_0_1_n_n none x W
  have e := Host.exp (subf l (broadcastInDim S256x16384 ![0, 1] bcast_S256x1_S256x16384_0_1
    (broadcastInDim S256x1 ![0] bcast_S256_S256x1_0 (Host.reduce FloatOps.maximumf l (constant S_ .f32 0xFF800000#32) reducesTo_S256x16384_S256_d1 h_S_))))
  Host.divf e (broadcastInDim S256x16384 ![0, 1] bcast_S256x1_S256x16384_0_1
    (broadcastInDim S256x1 ![0] bcast_S256_S256x1_0 (Host.reduceAdd e (constant S_ .f32 0x00000000#32) reducesTo_S256x16384_S256_d1 h_S_)))

/-- Entry by entry: the exponentials of the logits less the row's largest, over their sum. -/
theorem composed_apply (x : FVec Ideal S256x512 .f32) (W : FVec Ideal S512x16384 .f32) (r : Fin 256) (k : Fin 16384) :
    composed x W (ix2 r k) = Ideal.div (Ideal.exp (logit x W r k - Finset.univ.fold max (Ideal.ofBits .f32 0xFF800000#32) (logit x W r)))
      (∑ i : Fin 16384, Ideal.exp (logit x W r i - Finset.univ.fold max (Ideal.ofBits .f32 0xFF800000#32) (logit x W r))) := by
  unfold composed
  dsimp only
  pointwise
  rfl

theorem start_ne_top : Ideal.ofBits .f32 0xFF800000#32 ≠ ⊤ := by simp [Ideal.ofBits, Ideal.ieee]

/-- With finite inputs the reference's result is the softmax. -/
theorem composed_eq {x : FVec Ideal S256x512 .f32} {W : FVec Ideal S512x16384 .f32} (hx : ∀ i, IsReal (x i)) (hW : ∀ i, IsReal (W i)) (r : Fin 256) (k : Fin 16384) :
    composed x W (ix2 r k) = softmax x W r k := by
  have hl := logit_real hx hW r
  rw [composed_apply, softmax, quotient_shift (by decide) (logit x W r) hl _ (IsReal.peak (by decide) _ start_ne_top _ hl) k]

open Idealize.SL.Sem Idealize.ShloMosaic.TcCoe in
/-- The reference's run: it ends with `composed` of its arguments, which it leaves alone. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v9) = composed (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Value.run (F := Ideal) m ρ

end Cert.Softmax

end
-- ==== Proof.KernelIdealValue.lean ====
/-
# What the kernel computes

Every entry of the kernel's result on every device, over the extended reals, when each device holds its quarter of `W`'s columns.
-/
module

public import proofs.«01_k».proof.Proof.KernelIdealRun
public import proofs.«01_k».proof.Proof.ReferenceValue
public import Idealize.ShloMosaic.Lib.Pointwise
public import Idealize.ShloMosaic.Lib.IdealHost

@[expose] public section

noncomputable section

namespace Cert.KernelIdealProof

open Cert.KernelIdeal Cert.KernelIdeal.Gen Cert.Gather Cert.Softmax
open Idealize.ShloMosaic
open Idealize.ShloMosaic.TcCoe

variable (m : (ℓ : Loc nD τ sig) → Buf (Elt Ideal) ℓ) (ρ : Dev nD → PrngReg)
variable (x : FVec Ideal S256x512 .f32) (W : FVec Ideal ⟨2, ![512, 16384]⟩ .f32)

/-- Every device holds `x` and its quarter of the columns of `W`. -/
def Holds : Prop := ∀ c : Dev nD, m ((c.tc : Thread nD τ).loc main_arg0) = x
  ∧ m ((c.tc : Thread nD τ).loc main_arg1) = Layout.blockN ⟨2, ![512, 4096]⟩ ⟨2, ![512, 16384]⟩ (Layout.meshBlock [2, 2, 4] ![[], [2]] c) W

variable {m x W}

/-- A column of slice `s` of device `c`'s block, as a column of `W`. -/
def column (c : Dev nD) (s : Fin 4) (q : Fin 1024) : Fin 16384 := ⟨4096 * (c.val % 4) + 1024 * s.val + q.val, by omega⟩

theorem pay4_apply (a : FVec Ideal S256x512 .f32) (w : FVec Ideal S512x1024 .f32) (r : Fin 256) (q : Fin 1024) :
    k0_pay4 (F := Ideal) (k0_pay2 a) w (ix2 r q) = Ideal.exp (∑ k : Fin 512, a (ix2 r k) * w (ix2 k q)) := by
  unfold k0_pay4 k0_pay2
  dsimp only
  pointwise

/-- Which quarter of the columns a device holds. -/
theorem block_column : ∀ c : Dev nD, ((Layout.meshBlock [2, 2, 4] (![[], [2]] : Fin 2 → List ℕ) c) 1).val = c.val % 4 := by decide

theorem w_column (h : Holds m x W) (c : Dev nD) (s : Fin 4) (k : Fin 512) (q : Fin 1024) :
    (wM : Memref sig .tc .vmem S512x4096 .f32).view.readAt (Elt Ideal) (Rect.unit (s := S512x4096) ![0, 1024 * s.val] S512x1024.size (inbW s)).toLoadRect (wstg m ρ c) (ix2 k q)
      = W (ix2 k (column c s q)) := by
  rw [wstg_eq, (h c).2]
  refine congrArg W ?_
  funext b
  match b with
  | ⟨0, _⟩ =>
    refine Fin.ext ?_
    refine (Layout.TilesN.idx_val _ _ _ _).trans ?_
    refine (congrArg (fun n => _ * _ + n) (ValueKit.view_emb_slice_whole_unit_val cc0_stg1_0 ![0, 1024 * s.val] S512x1024.size (inbW s) (ix2 k q) 0)).trans ?_
    show 0 * 512 + (0 + k.val) = k.val
    omega
  | ⟨1, _⟩ =>
    refine Fin.ext ?_
    refine (Layout.TilesN.idx_val _ _ _ _).trans ?_
    refine (congrArg (fun n => _ * _ + n) (ValueKit.view_emb_slice_whole_unit_val cc0_stg1_0 ![0, 1024 * s.val] S512x1024.size (inbW s) (ix2 k q) 1)).trans ?_
    have e := block_column c
    show ((Layout.meshBlock [2, 2, 4] ![[], [2]] c) 1).val * 4096 + (1024 * s.val + q.val) = 4096 * (c.val % 4) + 1024 * s.val + q.val
    omega

theorem slice_apply (h : Holds m x W) (c : Dev nD) (s : Fin 4) (r : Fin 256) (q : Fin 1024) :
    eSlice m ρ c s (ix2 r q) = Ideal.exp (logit x W r (column c s q)) := by
  unfold eSlice
  rw [pay4_apply, xstg_eq, (h c).1]
  refine congrArg _ (Finset.sum_congr rfl fun k _ => ?_)
  rw [w_column ρ h]

theorem owner_chunk : ∀ c : Dev nD, ∀ q : Fin 4, ∀ ch : Fin 4, maker c q.val ch.val % 4 = ch.val := by decide

theorem finished_apply (h : Holds m x W) (c : Dev nD) (r : Fin 256) (k : Fin 16384) : Gfin m ρ c (ix2 r k) = Ideal.exp (logit x W r k) := by
  show eSlice m ρ (owner c (ix2 r k)) (sl (ix2 r k)) (pos (ix2 r k)) = _
  have e : pos (ix2 r k) = ix2 r (⟨k.val % 1024, Nat.mod_lt _ (by decide)⟩ : Fin 1024) := by
    funext b
    match b with
    | ⟨0, _⟩ => rfl
    | ⟨1, _⟩ => rfl
  rw [e, slice_apply ρ h]
  refine congrArg (fun k => Ideal.exp (logit x W r k)) (Fin.ext ?_)
  have ho : (owner c (ix2 r k)).val % 4 = k.val / 4096 :=
    owner_chunk c ⟨r.val / 64, by omega⟩ ⟨k.val / 4096, by omega⟩
  show 4096 * ((owner c (ix2 r k)).val % 4) + 1024 * (k.val % 4096 / 1024) + k.val % 1024 = k.val
  omega

theorem chunk_apply (h : Holds m x W) (c : Dev nD) (a : Fin 4) (r : Fin 256) (q : Fin 4096) :
    gChunk m ρ c a (ix2 r q) = Ideal.exp (logit x W r ⟨4096 * a.val + q.val, by omega⟩) := by
  rw [← finished_apply ρ h c]
  refine congrArg (Gfin m ρ c) ?_
  funext b
  match b with
  | ⟨0, _⟩ => rfl
  | ⟨1, _⟩ => rfl

theorem sums_apply (a b d e : Vec Ideal S256x4096 .bf16) (r : Fin 256) (z : Fin 1) :
    k0_pay12 (k0_pay11 (k0_pay9 (k0_pay7 a) (k0_pay8 b)) (k0_pay10 d)) e (ix2 r z)
      = (∑ q : Fin 4096, a (ix2 r q)) + (∑ q : Fin 4096, b (ix2 r q)) + (∑ q : Fin 4096, d (ix2 r q)) + ∑ q : Fin 4096, e (ix2 r q) := by
  unfold k0_pay12 k0_pay11 k0_pay10 k0_pay9 k0_pay8 k0_pay7
  dsimp only
  pointwise

/-- A sum over the columns, chunk by chunk. -/
theorem sum_chunks (f : Fin 16384 → EReal) : ∑ k, f k = ∑ a : Fin 4, ∑ q : Fin 4096, f ⟨4096 * a.val + q.val, by omega⟩ := by
  rw [← Finset.sum_product' (f := fun (a : Fin 4) (q : Fin 4096) => f ⟨4096 * a.val + q.val, by omega⟩), Finset.univ_product_univ]
  refine (Fintype.sum_equiv ((finProdFinEquiv (m := 4) (n := 4096)).trans (finCongr (by norm_num))) _ _ fun p => ?_).symm
  refine congrArg f (Fin.ext ?_)
  simp [finProdFinEquiv, Nat.add_comm]

/-- Starting from any chunk and going back, all four chunks are met. -/
theorem sum_behind (c : Dev nD) (f : Fin 4 → EReal) : f (behind c 0) + f (behind c 1) + f (behind c 2) + f (behind c 3) = ∑ a, f a := by
  have h : ∀ c : Dev nD, Function.Bijective fun e : Fin 4 => behind c e.val := by decide
  rw [← (Equiv.ofBijective _ (h c)).sum_comp f, Fin.sum_univ_four]
  rfl

theorem den_apply (h : Holds m x W) (c : Dev nD) (r : Fin 256) (z : Fin 1) : den m ρ c (ix2 r z) = ∑ k : Fin 16384, Ideal.exp (logit x W r k) := by
  unfold den
  rw [sums_apply, sum_chunks, ← sum_behind c]
  simp only [chunk_apply ρ h]

theorem pay14_apply (d : FVec Ideal S256x1 .f32) (a : Vec Ideal S256x4096 .bf16) (r : Fin 256) (q : Fin 4096) :
    k0_pay14 d a (ix2 r q) = a (ix2 r q) * Ideal.div 1 (d (ix2 r (0 : Fin 1))) := by
  unfold k0_pay14 k0_pay13
  dsimp only
  pointwise

set_option maxRecDepth 65536 in
/-- On every device the kernel's result is the softmax. -/
theorem out_apply (h : Holds m x W) (c : Dev nD) (r : Fin 256) (k : Fin 16384) : outAt m ρ c (ix2 r k) = softmax x W r k := by
  show k0_pay14 (den m ρ c) (gChunk m ρ c (ofCol (ix2 r k))) (atCol (ix2 r k)) = _
  have e : atCol (ix2 r k) = ix2 r (⟨k.val % 4096, Nat.mod_lt _ (by decide)⟩ : Fin 4096) := by
    funext b
    match b with
    | ⟨0, _⟩ => rfl
    | ⟨1, _⟩ => rfl
  rw [e, pay14_apply, den_apply ρ h, chunk_apply ρ h]
  unfold softmax
  refine congrArg (fun i => Ideal.exp (logit x W r i) * _) (Fin.ext ?_)
  show 4096 * (k.val / 4096) + k.val % 4096 = k.val
  omega

end Cert.KernelIdealProof

end
-- ==== Proof.Finite.lean ====
/-
# The precondition

`finite` of every device's blocks says that no entry of `x` or of `W` is infinite.
-/
module

public import proofs.«01_k».proof.Defs
public import proofs.«01_k».proof.Proof.Gen.Pre_finite_KernelIdeal
public import proofs.«01_k».proof.Proof.KernelIdealValue
public import Idealize.ShloMosaic.Lib.ReduceAll

@[expose] public section

noncomputable section

namespace Cert.Softmax

open Idealize.ShloMosaic Idealize.ShloMosaic.TcCoe

/-- The word of positive infinity. -/
theorem infinity_word : Ideal.ofBits .f32 0x7F800000#32 = ⊤ := by simp [Ideal.ofBits, Ideal.ieee]

/-- An entry whose absolute value compares below infinity is a real. -/
theorem real_of_lt {s : Shape} (a : FVec Ideal s .f32) (h : (⟨0, ![]⟩ : Shape).BroadcastsInDim s (![] : Fin 0 → Fin s.rank)) (i : s.Idx)
    (e : cmpf (F := Ideal) .olt (Host.absf a) (broadcastInDim s ![] h (constant ⟨0, ![]⟩ .f32 0x7F800000#32)) i = 1#1) : IsReal (a i) := by
  have e' : Ideal.cmp .olt (FloatOps.hostAbsf (F := Ideal) (a i)) (Ideal.ofBits .f32 0x7F800000#32) = 1#1 := e
  rw [infinity_word] at e'
  have lt : max (a i) (-(a i)) < ⊤ := by
    by_contra hn
    have e2 : BitVec.ofBool (decide (max (a i) (-(a i)) < ⊤)) = 1#1 := e'
    rw [decide_eq_false hn] at e2
    exact absurd e2 (by decide)
  refine ⟨fun hb => ?_, fun ht => ?_⟩
  · rw [hb, EReal.neg_bot, max_eq_right bot_le] at lt
    exact lt_irrefl _ lt
  · rw [ht, max_eq_left le_top] at lt
    exact lt_irrefl _ lt

/-- A scalar has one index. -/
instance : Subsingleton (⟨0, ![]⟩ : Shape).Idx := ⟨fun _ _ => funext fun b => b.elim0⟩

open Cert.Pre_finite_KernelIdeal Cert.Pre_finite_KernelIdeal.Gen in
/-- The precondition of one device's blocks. -/
theorem blocks_real {x : FVec Ideal S256x512 .f32} {w : FVec Ideal S512x4096 .f32} (h : fn (F := Ideal) x w = fun _ => 1#1) :
    (∀ i, IsReal (x i)) ∧ ∀ i, IsReal (w i) := by
  have h0 := congrFun h (Shape.Idx.first Facts.h_S_)
  dsimp only [fn] at h0
  have h1 := IntOp.andi_eq_one.mp h0
  exact ⟨fun i => real_of_lt x _ i (Host.reduce_andi_all _ _ _ _ _ h1.1 i), fun i => real_of_lt w _ i (Host.reduce_andi_all _ _ _ _ _ h1.2 i)⟩

open Cert.KernelIdeal Cert.KernelIdealProof in
/-- The precondition of all devices' blocks: every entry of `W` is one of some device's block. -/
theorem inputs_real {m : (ℓ : Loc nD τ sig) → Buf (Elt Ideal) ℓ} {x : FVec Ideal S256x512 .f32} {W : FVec Ideal ⟨2, ![512, 16384]⟩ .f32}
    (h : Holds m x W) (hp : Cert.Pre_KernelIdeal_finite_KernelIdeal m) : (∀ i, IsReal (x i)) ∧ ∀ i, IsReal (W i) := by
  constructor
  · have := (blocks_real (hp 0)).1
    rw [(h 0).1] at this
    exact this
  · intro i
    have hi : (i 1).val < 16384 := (i 1).isLt
    have hc : (i 1).val / 4096 < 16 := by omega
    have hw := (blocks_real (hp ⟨(i 1).val / 4096, hc⟩)).2 (ix2 (⟨(i 0).val, (i 0).isLt⟩ : Fin 512) (⟨(i 1).val % 4096, Nat.mod_lt _ (by decide)⟩ : Fin 4096))
    rw [(h ⟨(i 1).val / 4096, hc⟩).2] at hw
    refine (congrArg (fun j => IsReal (W j)) ?_).mp hw
    funext b
    match b with
    | ⟨0, _⟩ =>
      refine Fin.ext ((Layout.TilesN.idx_val _ _ _ _).trans ?_)
      show 0 * 512 + (i 0).val = (i 0).val
      omega
    | ⟨1, _⟩ =>
      refine Fin.ext ((Layout.TilesN.idx_val _ _ _ _).trans ?_)
      have e := block_column ⟨(i 1).val / 4096, hc⟩
      show ((Layout.meshBlock [2, 2, 4] ![[], [2]] (⟨(i 1).val / 4096, hc⟩ : Dev nD)) 1).val * 4096 + (i 1).val % 4096 = (i 1).val
      have e' : (i 1).val / 4096 % 4 = (i 1).val / 4096 := Nat.mod_eq_of_lt (by omega)
      rw [e, e']
      omega

end Cert.Softmax

end
-- ==== Proof.lean ====
/-
# The certificate

The frames of the three programs from their runs: the kernel's in Proof/KernelRun.lean and Proof/KernelIdealRun.lean, the
reference's read back from its operations. The value claim: on every device the kernel's result (Proof/KernelIdealValue.lean) is,
entry by entry, the softmax that the reference computes (Proof/ReferenceValue.lean) when its inputs are finite (Proof/Finite.lean).
-/
module

public import proofs.«01_k».proof.Defs
public import proofs.«01_k».proof.Proof.Finite
public import proofs.«01_k».proof.Proof.KernelRun
public import proofs.«01_k».proof.Proof.KernelIdealRun
public import proofs.«01_k».proof.Proof.KernelIdealValue
public import proofs.«01_k».proof.Proof.ReferenceValue
public import proofs.«01_k».proof.Proof.Gen.Pre_finite_KernelIdeal
public import proofs.«01_k».proof.Proof.Gen.Pre_finite_ReferenceIdeal
public import proofs.«01_k».proof.Proof.Gen.ReferenceIdeal.Run
public import Idealize.ShloMosaic.Lib.Quiescent

@[expose] public section

noncomputable section

namespace Cert.Proof

open Idealize.ShloMosaic Idealize.ShloMosaic.TcCoe Idealize.SL.Sem

/-- The kernel in machine floats runs, leaves its inputs and returns every semaphore to zero. -/
theorem frame_kernel : Cert.quiescent_Kernel := fun m ρ _ =>
  (θ_run Cert.Kernel.defs _ _).mono (fun _ h => ⟨fun c => (h.1 c).2, h.2⟩) (Cert.KernelProof.run_values (F := Bits) m ρ)

/-- So does the kernel over the extended reals, -/
theorem frame_ideal : Cert.quiescent_KernelIdeal := fun m ρ _ =>
  (θ_run Cert.KernelIdeal.defs _ _).mono (fun _ h => ⟨fun c => (h.1 c).2, h.2⟩) (Cert.KernelIdealProof.run_values (F := Ideal) m ρ)

/-- and from finite inputs in particular. -/
theorem frame_ideal_finite : Cert.quiescent_KernelIdeal_pre_finite_KernelIdeal := fun m ρ _ => frame_ideal m ρ trivial

/-- So does the reference, which has no semaphore, -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- and from finite inputs in particular. -/
theorem frame_reference_finite : Cert.quiescent_ReferenceIdeal_pre_finite_ReferenceIdeal := fun m ρ _ => frame_reference m ρ trivial

/-- From finite inputs every device's result is the reference's, entry by entry. -/
theorem value : Cert.algebraic_KernelIdeal_ReferenceIdeal_pre_finite_KernelIdeal := by
  intro m ρ m' ρ' hpre hargs
  have hholds : Cert.KernelIdealProof.Holds m _ _ := hargs
  obtain ⟨hx, hW⟩ := Cert.Softmax.inputs_real hholds hpre
  refine ⟨Cert.Softmax.composed _ _, ?_, (θ_run Cert.ReferenceIdeal.defs _ _).mono (fun _ h => h 0) (Cert.Softmax.reference_run m' ρ')⟩
  refine (θ_run Cert.KernelIdeal.defs _ _).mono (fun _ h c => ⟨(h.1 c).1.trans ?_, (h.1 c).2⟩) (Cert.KernelIdealProof.run_values (F := Ideal) m ρ)
  funext i
  rw [eq_ix2 i]
  exact (Cert.KernelIdealProof.out_apply ρ hholds c _ _).trans (Cert.Softmax.composed_eq hx hW _ _).symm

theorem claim : Cert.Claim :=
  ⟨Cert.Kernel.Gen.facts, Cert.KernelIdeal.Gen.facts, Cert.ReferenceIdeal.Gen.facts, Cert.Pre_finite_KernelIdeal.Gen.facts, Cert.Pre_finite_ReferenceIdeal.Gen.facts,
    frame_kernel, frame_ideal, frame_ideal_finite, frame_reference, frame_reference_finite, trivial, value⟩

end Cert.Proof

end
